-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Mixers (m : (ℓ : Loc Cert.Mixers.nD Cert.Mixers.τ Cert.Mixers.sig) → Buf (Elt Bits) ℓ) : Prop :=
  True

def Pre_MixersIdeal (m : (ℓ : Loc Cert.MixersIdeal.nD Cert.MixersIdeal.τ Cert.MixersIdeal.sig) → Buf (Elt Ideal) ℓ) : Prop :=
  True

def Pre_RetentionRefIdeal (m : (ℓ : Loc Cert.RetentionRefIdeal.nD Cert.RetentionRefIdeal.τ Cert.RetentionRefIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Mixers [hMixers : Cert.Mixers.Facts] : Prop :=
  ∀ (m : (ℓ : Loc Cert.Mixers.nD Cert.Mixers.τ Cert.Mixers.sig) → Buf (Elt Bits) ℓ) (g : Dev Cert.Mixers.nD → PrngReg), Pre_Mixers m →
    θ_run (Cert.Mixers.defs (F := Bits)) (onTc (τ := Cert.Mixers.τ) (Cert.Mixers.main (F := Bits))) ⟨m, fun _ => 0, g⟩ (fun r => (∀ c : Dev Cert.Mixers.nD,
      r.2.mem ((c.tc : Thread Cert.Mixers.nD Cert.Mixers.τ).loc Cert.Mixers.main_arg0) = m ((c.tc : Thread Cert.Mixers.nD Cert.Mixers.τ).loc Cert.Mixers.main_arg0)
      ∧ r.2.mem ((c.tc : Thread Cert.Mixers.nD Cert.Mixers.τ).loc Cert.Mixers.main_arg1) = m ((c.tc : Thread Cert.Mixers.nD Cert.Mixers.τ).loc Cert.Mixers.main_arg1)
      ∧ r.2.mem ((c.tc : Thread Cert.Mixers.nD Cert.Mixers.τ).loc Cert.Mixers.main_arg2) = m ((c.tc : Thread Cert.Mixers.nD Cert.Mixers.τ).loc Cert.Mixers.main_arg2)
      ∧ r.2.mem ((c.tc : Thread Cert.Mixers.nD Cert.Mixers.τ).loc Cert.Mixers.main_arg3) = m ((c.tc : Thread Cert.Mixers.nD Cert.Mixers.τ).loc Cert.Mixers.main_arg3)
      ∧ r.2.mem ((c.tc : Thread Cert.Mixers.nD Cert.Mixers.τ).loc Cert.Mixers.main_arg4) = m ((c.tc : Thread Cert.Mixers.nD Cert.Mixers.τ).loc Cert.Mixers.main_arg4)
      ∧ r.2.mem ((c.tc : Thread Cert.Mixers.nD Cert.Mixers.τ).loc Cert.Mixers.main_arg5) = m ((c.tc : Thread Cert.Mixers.nD Cert.Mixers.τ).loc Cert.Mixers.main_arg5)
      ∧ r.2.mem ((c.tc : Thread Cert.Mixers.nD Cert.Mixers.τ).loc Cert.Mixers.main_arg6) = m ((c.tc : Thread Cert.Mixers.nD Cert.Mixers.τ).loc Cert.Mixers.main_arg6)
      ∧ r.2.mem ((c.tc : Thread Cert.Mixers.nD Cert.Mixers.τ).loc Cert.Mixers.main_arg7) = m ((c.tc : Thread Cert.Mixers.nD Cert.Mixers.τ).loc Cert.Mixers.main_arg7)
      ∧ r.2.mem ((c.tc : Thread Cert.Mixers.nD Cert.Mixers.τ).loc Cert.Mixers.main_arg8) = m ((c.tc : Thread Cert.Mixers.nD Cert.Mixers.τ).loc Cert.Mixers.main_arg8)
      ∧ r.2.mem ((c.tc : Thread Cert.Mixers.nD Cert.Mixers.τ).loc Cert.Mixers.main_arg9) = m ((c.tc : Thread Cert.Mixers.nD Cert.Mixers.τ).loc Cert.Mixers.main_arg9)
      ∧ r.2.mem ((c.tc : Thread Cert.Mixers.nD Cert.Mixers.τ).loc Cert.Mixers.main_arg10) = m ((c.tc : Thread Cert.Mixers.nD Cert.Mixers.τ).loc Cert.Mixers.main_arg10)
      ∧ r.2.mem ((c.tc : Thread Cert.Mixers.nD Cert.Mixers.τ).loc Cert.Mixers.main_arg11) = m ((c.tc : Thread Cert.Mixers.nD Cert.Mixers.τ).loc Cert.Mixers.main_arg11))
      ∧ r.2.sem = fun _ => 0)

def quiescent_MixersIdeal [hMixersIdeal : Cert.MixersIdeal.Facts] : Prop :=
  ∀ (m : (ℓ : Loc Cert.MixersIdeal.nD Cert.MixersIdeal.τ Cert.MixersIdeal.sig) → Buf (Elt Ideal) ℓ) (g : Dev Cert.MixersIdeal.nD → PrngReg), Pre_MixersIdeal m →
    θ_run (Cert.MixersIdeal.defs (F := Ideal)) (onTc (τ := Cert.MixersIdeal.τ) (Cert.MixersIdeal.main (F := Ideal))) ⟨m, fun _ => 0, g⟩ (fun r => (∀ c : Dev Cert.MixersIdeal.nD,
      r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
      ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
      ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2)
      ∧ r.2.mem ((c.tc : Thread Cert.MixersIdeal.nD Cert.MixersIdeal.τ).loc Cert.MixersIdeal.main_arg3) = m ((c.tc : Thread Cert.MixersIdeal.nD Cert.MixersIdeal.τ).loc Cert.MixersIdeal.main_arg3)
      ∧ r.2.mem ((c.tc : Thread Cert.MixersIdeal.nD Cert.MixersIdeal.τ).loc Cert.MixersIdeal.main_arg4) = m ((c.tc : Thread Cert.MixersIdeal.nD Cert.MixersIdeal.τ).loc Cert.MixersIdeal.main_arg4)
      ∧ r.2.mem ((c.tc : Thread Cert.MixersIdeal.nD Cert.MixersIdeal.τ).loc Cert.MixersIdeal.main_arg5) = m ((c.tc : Thread Cert.MixersIdeal.nD Cert.MixersIdeal.τ).loc Cert.MixersIdeal.main_arg5)
      ∧ r.2.mem ((c.tc : Thread Cert.MixersIdeal.nD Cert.MixersIdeal.τ).loc Cert.MixersIdeal.main_arg6) = m ((c.tc : Thread Cert.MixersIdeal.nD Cert.MixersIdeal.τ).loc Cert.MixersIdeal.main_arg6)
      ∧ r.2.mem ((c.tc : Thread Cert.MixersIdeal.nD Cert.MixersIdeal.τ).loc Cert.MixersIdeal.main_arg7) = m ((c.tc : Thread Cert.MixersIdeal.nD Cert.MixersIdeal.τ).loc Cert.MixersIdeal.main_arg7)
      ∧ r.2.mem ((c.tc : Thread Cert.MixersIdeal.nD Cert.MixersIdeal.τ).loc Cert.MixersIdeal.main_arg8) = m ((c.tc : Thread Cert.MixersIdeal.nD Cert.MixersIdeal.τ).loc Cert.MixersIdeal.main_arg8)
      ∧ r.2.mem ((c.tc : Thread Cert.MixersIdeal.nD Cert.MixersIdeal.τ).loc Cert.MixersIdeal.main_arg9) = m ((c.tc : Thread Cert.MixersIdeal.nD Cert.MixersIdeal.τ).loc Cert.MixersIdeal.main_arg9)
      ∧ r.2.mem ((c.tc : Thread Cert.MixersIdeal.nD Cert.MixersIdeal.τ).loc Cert.MixersIdeal.main_arg10) = m ((c.tc : Thread Cert.MixersIdeal.nD Cert.MixersIdeal.τ).loc Cert.MixersIdeal.main_arg10)
      ∧ r.2.mem ((c.tc : Thread Cert.MixersIdeal.nD Cert.MixersIdeal.τ).loc Cert.MixersIdeal.main_arg11) = m ((c.tc : Thread Cert.MixersIdeal.nD Cert.MixersIdeal.τ).loc Cert.MixersIdeal.main_arg11))
      ∧ r.2.sem = fun _ => 0)

def quiescent_RetentionRefIdeal [hRetentionRefIdeal : Cert.RetentionRefIdeal.Facts] : Prop :=
  ∀ (m : (ℓ : Loc Cert.RetentionRefIdeal.nD Cert.RetentionRefIdeal.τ Cert.RetentionRefIdeal.sig) → Buf (Elt Ideal) ℓ) (g : Dev Cert.RetentionRefIdeal.nD → PrngReg), Pre_RetentionRefIdeal m →
    θ_run (Cert.RetentionRefIdeal.defs (F := Ideal)) (onTc (τ := Cert.RetentionRefIdeal.τ) (Cert.RetentionRefIdeal.main (F := Ideal))) ⟨m, fun _ => 0, g⟩ (fun r => (∀ c : Dev Cert.RetentionRefIdeal.nD,
      r.2.mem ((c.tc : Thread Cert.RetentionRefIdeal.nD Cert.RetentionRefIdeal.τ).loc Cert.RetentionRefIdeal.main_arg0) = m ((c.tc : Thread Cert.RetentionRefIdeal.nD Cert.RetentionRefIdeal.τ).loc Cert.RetentionRefIdeal.main_arg0)
      ∧ r.2.mem ((c.tc : Thread Cert.RetentionRefIdeal.nD Cert.RetentionRefIdeal.τ).loc Cert.RetentionRefIdeal.main_arg1) = m ((c.tc : Thread Cert.RetentionRefIdeal.nD Cert.RetentionRefIdeal.τ).loc Cert.RetentionRefIdeal.main_arg1)
      ∧ r.2.mem ((c.tc : Thread Cert.RetentionRefIdeal.nD Cert.RetentionRefIdeal.τ).loc Cert.RetentionRefIdeal.main_arg2) = m ((c.tc : Thread Cert.RetentionRefIdeal.nD Cert.RetentionRefIdeal.τ).loc Cert.RetentionRefIdeal.main_arg2)
      ∧ r.2.mem ((c.tc : Thread Cert.RetentionRefIdeal.nD Cert.RetentionRefIdeal.τ).loc Cert.RetentionRefIdeal.main_arg3) = m ((c.tc : Thread Cert.RetentionRefIdeal.nD Cert.RetentionRefIdeal.τ).loc Cert.RetentionRefIdeal.main_arg3)
      ∧ r.2.mem ((c.tc : Thread Cert.RetentionRefIdeal.nD Cert.RetentionRefIdeal.τ).loc Cert.RetentionRefIdeal.main_arg4) = m ((c.tc : Thread Cert.RetentionRefIdeal.nD Cert.RetentionRefIdeal.τ).loc Cert.RetentionRefIdeal.main_arg4)
      ∧ r.2.mem ((c.tc : Thread Cert.RetentionRefIdeal.nD Cert.RetentionRefIdeal.τ).loc Cert.RetentionRefIdeal.main_arg5) = m ((c.tc : Thread Cert.RetentionRefIdeal.nD Cert.RetentionRefIdeal.τ).loc Cert.RetentionRefIdeal.main_arg5)
      ∧ r.2.mem ((c.tc : Thread Cert.RetentionRefIdeal.nD Cert.RetentionRefIdeal.τ).loc Cert.RetentionRefIdeal.main_arg6) = m ((c.tc : Thread Cert.RetentionRefIdeal.nD Cert.RetentionRefIdeal.τ).loc Cert.RetentionRefIdeal.main_arg6)
      ∧ r.2.mem ((c.tc : Thread Cert.RetentionRefIdeal.nD Cert.RetentionRefIdeal.τ).loc Cert.RetentionRefIdeal.main_arg7) = m ((c.tc : Thread Cert.RetentionRefIdeal.nD Cert.RetentionRefIdeal.τ).loc Cert.RetentionRefIdeal.main_arg7)
      ∧ r.2.mem ((c.tc : Thread Cert.RetentionRefIdeal.nD Cert.RetentionRefIdeal.τ).loc Cert.RetentionRefIdeal.main_arg8) = m ((c.tc : Thread Cert.RetentionRefIdeal.nD Cert.RetentionRefIdeal.τ).loc Cert.RetentionRefIdeal.main_arg8)
      ∧ r.2.mem ((c.tc : Thread Cert.RetentionRefIdeal.nD Cert.RetentionRefIdeal.τ).loc Cert.RetentionRefIdeal.main_arg9) = m ((c.tc : Thread Cert.RetentionRefIdeal.nD Cert.RetentionRefIdeal.τ).loc Cert.RetentionRefIdeal.main_arg9)
      ∧ r.2.mem ((c.tc : Thread Cert.RetentionRefIdeal.nD Cert.RetentionRefIdeal.τ).loc Cert.RetentionRefIdeal.main_arg10) = m ((c.tc : Thread Cert.RetentionRefIdeal.nD Cert.RetentionRefIdeal.τ).loc Cert.RetentionRefIdeal.main_arg10)
      ∧ r.2.mem ((c.tc : Thread Cert.RetentionRefIdeal.nD Cert.RetentionRefIdeal.τ).loc Cert.RetentionRefIdeal.main_arg11) = m ((c.tc : Thread Cert.RetentionRefIdeal.nD Cert.RetentionRefIdeal.τ).loc Cert.RetentionRefIdeal.main_arg11))
      ∧ r.2.sem = fun _ => 0)

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v31)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v31) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v101) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Kernel_KernelIdeal : Prop :=
  True

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v16) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v5)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v17) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Mixers_MixersIdeal : Prop :=
  IdealRules.named_const.Statement Cert.MixersIdeal.κ "floor" .f32 0x179ABE15#32 ((5316911940649 / 5316911983139663491615228241121378304 : ℝ) : EReal)

def algebraic_MixersIdeal_RetentionRefIdeal_on_retention_columns [hMixersIdeal : Cert.MixersIdeal.Facts] [hRetentionRefIdeal : Cert.RetentionRefIdeal.Facts] [hOn_retention_columns : Cert.On_retention_columns.Facts] : Prop :=
  ∀ (m : (ℓ : Loc Cert.MixersIdeal.nD Cert.MixersIdeal.τ Cert.MixersIdeal.sig) → Buf (Elt Ideal) ℓ) (g : Dev Cert.MixersIdeal.nD → PrngReg)
    (m' : (ℓ : Loc Cert.RetentionRefIdeal.nD Cert.RetentionRefIdeal.τ Cert.RetentionRefIdeal.sig) → Buf (Elt Ideal) ℓ) (g' : Dev Cert.RetentionRefIdeal.nD → PrngReg), Pre_MixersIdeal m →
    (∀ c : Dev Cert.MixersIdeal.nD,
      m' ((c.tc : Thread Cert.RetentionRefIdeal.nD Cert.RetentionRefIdeal.τ).loc Cert.RetentionRefIdeal.main_arg0) = m ((c.tc : Thread Cert.MixersIdeal.nD Cert.MixersIdeal.τ).loc Cert.MixersIdeal.main_arg0)
      ∧ m' ((c.tc : Thread Cert.RetentionRefIdeal.nD Cert.RetentionRefIdeal.τ).loc Cert.RetentionRefIdeal.main_arg1) = m ((c.tc : Thread Cert.MixersIdeal.nD Cert.MixersIdeal.τ).loc Cert.MixersIdeal.main_arg1)
      ∧ m' ((c.tc : Thread Cert.RetentionRefIdeal.nD Cert.RetentionRefIdeal.τ).loc Cert.RetentionRefIdeal.main_arg2) = m ((c.tc : Thread Cert.MixersIdeal.nD Cert.MixersIdeal.τ).loc Cert.MixersIdeal.main_arg2)
      ∧ m' ((c.tc : Thread Cert.RetentionRefIdeal.nD Cert.RetentionRefIdeal.τ).loc Cert.RetentionRefIdeal.main_arg3) = m ((c.tc : Thread Cert.MixersIdeal.nD Cert.MixersIdeal.τ).loc Cert.MixersIdeal.main_arg3)
      ∧ m' ((c.tc : Thread Cert.RetentionRefIdeal.nD Cert.RetentionRefIdeal.τ).loc Cert.RetentionRefIdeal.main_arg4) = m ((c.tc : Thread Cert.MixersIdeal.nD Cert.MixersIdeal.τ).loc Cert.MixersIdeal.main_arg4)
      ∧ m' ((c.tc : Thread Cert.RetentionRefIdeal.nD Cert.RetentionRefIdeal.τ).loc Cert.RetentionRefIdeal.main_arg5) = m ((c.tc : Thread Cert.MixersIdeal.nD Cert.MixersIdeal.τ).loc Cert.MixersIdeal.main_arg5)
      ∧ m' ((c.tc : Thread Cert.RetentionRefIdeal.nD Cert.RetentionRefIdeal.τ).loc Cert.RetentionRefIdeal.main_arg6) = m ((c.tc : Thread Cert.MixersIdeal.nD Cert.MixersIdeal.τ).loc Cert.MixersIdeal.main_arg6)
      ∧ m' ((c.tc : Thread Cert.RetentionRefIdeal.nD Cert.RetentionRefIdeal.τ).loc Cert.RetentionRefIdeal.main_arg7) = m ((c.tc : Thread Cert.MixersIdeal.nD Cert.MixersIdeal.τ).loc Cert.MixersIdeal.main_arg7)
      ∧ m' ((c.tc : Thread Cert.RetentionRefIdeal.nD Cert.RetentionRefIdeal.τ).loc Cert.RetentionRefIdeal.main_arg8) = m ((c.tc : Thread Cert.MixersIdeal.nD Cert.MixersIdeal.τ).loc Cert.MixersIdeal.main_arg8)
      ∧ m' ((c.tc : Thread Cert.RetentionRefIdeal.nD Cert.RetentionRefIdeal.τ).loc Cert.RetentionRefIdeal.main_arg9) = m ((c.tc : Thread Cert.MixersIdeal.nD Cert.MixersIdeal.τ).loc Cert.MixersIdeal.main_arg9)
      ∧ m' ((c.tc : Thread Cert.RetentionRefIdeal.nD Cert.RetentionRefIdeal.τ).loc Cert.RetentionRefIdeal.main_arg10) = m ((c.tc : Thread Cert.MixersIdeal.nD Cert.MixersIdeal.τ).loc Cert.MixersIdeal.main_arg10)
      ∧ m' ((c.tc : Thread Cert.RetentionRefIdeal.nD Cert.RetentionRefIdeal.τ).loc Cert.RetentionRefIdeal.main_arg11) = m ((c.tc : Thread Cert.MixersIdeal.nD Cert.MixersIdeal.τ).loc Cert.MixersIdeal.main_arg11)) →
    ∃ (v0 : (c : Dev Cert.MixersIdeal.nD) → Buf (Elt Ideal) ((c.tc : Thread Cert.MixersIdeal.nD Cert.MixersIdeal.τ).loc Cert.MixersIdeal.main_v122)),
      θ_run (Cert.MixersIdeal.defs (F := Ideal)) (onTc (τ := Cert.MixersIdeal.τ) (Cert.MixersIdeal.main (F := Ideal))) ⟨m, fun _ => 0, g⟩ (fun r => ∀ c : Dev Cert.MixersIdeal.nD,
          (∀ i : (⟨3, ![8, 2048, 1024]⟩ : Shape).Idx, (Cert.On_retention_columns.fn (F := Ideal) (m ((c.tc : Thread Cert.MixersIdeal.nD Cert.MixersIdeal.τ).loc Cert.MixersIdeal.main_arg0)) (m ((c.tc : Thread Cert.MixersIdeal.nD Cert.MixersIdeal.τ).loc Cert.MixersIdeal.main_arg1)) (m ((c.tc : Thread Cert.MixersIdeal.nD Cert.MixersIdeal.τ).loc Cert.MixersIdeal.main_arg2)) (m ((c.tc : Thread Cert.MixersIdeal.nD Cert.MixersIdeal.τ).loc Cert.MixersIdeal.main_arg3)) (m ((c.tc : Thread Cert.MixersIdeal.nD Cert.MixersIdeal.τ).loc Cert.MixersIdeal.main_arg4)) (m ((c.tc : Thread Cert.MixersIdeal.nD Cert.MixersIdeal.τ).loc Cert.MixersIdeal.main_arg5)) (m ((c.tc : Thread Cert.MixersIdeal.nD Cert.MixersIdeal.τ).loc Cert.MixersIdeal.main_arg6)) (m ((c.tc : Thread Cert.MixersIdeal.nD Cert.MixersIdeal.τ).loc Cert.MixersIdeal.main_arg7)) (m ((c.tc : Thread Cert.MixersIdeal.nD Cert.MixersIdeal.τ).loc Cert.MixersIdeal.main_arg8)) (m ((c.tc : Thread Cert.MixersIdeal.nD Cert.MixersIdeal.τ).loc Cert.MixersIdeal.main_arg9)) (m ((c.tc : Thread Cert.MixersIdeal.nD Cert.MixersIdeal.τ).loc Cert.MixersIdeal.main_arg10)) (m ((c.tc : Thread Cert.MixersIdeal.nD Cert.MixersIdeal.τ).loc Cert.MixersIdeal.main_arg11))) i = 1#1 → r.2.mem ((c.tc : Thread Cert.MixersIdeal.nD Cert.MixersIdeal.τ).loc Cert.MixersIdeal.main_v122) i = v0 c i)
          ∧ r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
          ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
          ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2)
          ∧ r.2.mem ((c.tc : Thread Cert.MixersIdeal.nD Cert.MixersIdeal.τ).loc Cert.MixersIdeal.main_arg3) = m ((c.tc : Thread Cert.MixersIdeal.nD Cert.MixersIdeal.τ).loc Cert.MixersIdeal.main_arg3)
          ∧ r.2.mem ((c.tc : Thread Cert.MixersIdeal.nD Cert.MixersIdeal.τ).loc Cert.MixersIdeal.main_arg4) = m ((c.tc : Thread Cert.MixersIdeal.nD Cert.MixersIdeal.τ).loc Cert.MixersIdeal.main_arg4)
          ∧ r.2.mem ((c.tc : Thread Cert.MixersIdeal.nD Cert.MixersIdeal.τ).loc Cert.MixersIdeal.main_arg5) = m ((c.tc : Thread Cert.MixersIdeal.nD Cert.MixersIdeal.τ).loc Cert.MixersIdeal.main_arg5)
          ∧ r.2.mem ((c.tc : Thread Cert.MixersIdeal.nD Cert.MixersIdeal.τ).loc Cert.MixersIdeal.main_arg6) = m ((c.tc : Thread Cert.MixersIdeal.nD Cert.MixersIdeal.τ).loc Cert.MixersIdeal.main_arg6)
          ∧ r.2.mem ((c.tc : Thread Cert.MixersIdeal.nD Cert.MixersIdeal.τ).loc Cert.MixersIdeal.main_arg7) = m ((c.tc : Thread Cert.MixersIdeal.nD Cert.MixersIdeal.τ).loc Cert.MixersIdeal.main_arg7)
          ∧ r.2.mem ((c.tc : Thread Cert.MixersIdeal.nD Cert.MixersIdeal.τ).loc Cert.MixersIdeal.main_arg8) = m ((c.tc : Thread Cert.MixersIdeal.nD Cert.MixersIdeal.τ).loc Cert.MixersIdeal.main_arg8)
          ∧ r.2.mem ((c.tc : Thread Cert.MixersIdeal.nD Cert.MixersIdeal.τ).loc Cert.MixersIdeal.main_arg9) = m ((c.tc : Thread Cert.MixersIdeal.nD Cert.MixersIdeal.τ).loc Cert.MixersIdeal.main_arg9)
          ∧ r.2.mem ((c.tc : Thread Cert.MixersIdeal.nD Cert.MixersIdeal.τ).loc Cert.MixersIdeal.main_arg10) = m ((c.tc : Thread Cert.MixersIdeal.nD Cert.MixersIdeal.τ).loc Cert.MixersIdeal.main_arg10)
          ∧ r.2.mem ((c.tc : Thread Cert.MixersIdeal.nD Cert.MixersIdeal.τ).loc Cert.MixersIdeal.main_arg11) = m ((c.tc : Thread Cert.MixersIdeal.nD Cert.MixersIdeal.τ).loc Cert.MixersIdeal.main_arg11))
      ∧ θ_run (Cert.RetentionRefIdeal.defs (F := Ideal)) (onTc (τ := Cert.RetentionRefIdeal.τ) (Cert.RetentionRefIdeal.main (F := Ideal))) ⟨m', fun _ => 0, g'⟩ (fun r => ∀ c : Dev Cert.RetentionRefIdeal.nD,
          (∀ i : (⟨3, ![8, 2048, 1024]⟩ : Shape).Idx, (Cert.On_retention_columns.fn (F := Ideal) (m ((c.tc : Thread Cert.MixersIdeal.nD Cert.MixersIdeal.τ).loc Cert.MixersIdeal.main_arg0)) (m ((c.tc : Thread Cert.MixersIdeal.nD Cert.MixersIdeal.τ).loc Cert.MixersIdeal.main_arg1)) (m ((c.tc : Thread Cert.MixersIdeal.nD Cert.MixersIdeal.τ).loc Cert.MixersIdeal.main_arg2)) (m ((c.tc : Thread Cert.MixersIdeal.nD Cert.MixersIdeal.τ).loc Cert.MixersIdeal.main_arg3)) (m ((c.tc : Thread Cert.MixersIdeal.nD Cert.MixersIdeal.τ).loc Cert.MixersIdeal.main_arg4)) (m ((c.tc : Thread Cert.MixersIdeal.nD Cert.MixersIdeal.τ).loc Cert.MixersIdeal.main_arg5)) (m ((c.tc : Thread Cert.MixersIdeal.nD Cert.MixersIdeal.τ).loc Cert.MixersIdeal.main_arg6)) (m ((c.tc : Thread Cert.MixersIdeal.nD Cert.MixersIdeal.τ).loc Cert.MixersIdeal.main_arg7)) (m ((c.tc : Thread Cert.MixersIdeal.nD Cert.MixersIdeal.τ).loc Cert.MixersIdeal.main_arg8)) (m ((c.tc : Thread Cert.MixersIdeal.nD Cert.MixersIdeal.τ).loc Cert.MixersIdeal.main_arg9)) (m ((c.tc : Thread Cert.MixersIdeal.nD Cert.MixersIdeal.τ).loc Cert.MixersIdeal.main_arg10)) (m ((c.tc : Thread Cert.MixersIdeal.nD Cert.MixersIdeal.τ).loc Cert.MixersIdeal.main_arg11))) i = 1#1 → r.2.mem ((c.tc : Thread Cert.RetentionRefIdeal.nD Cert.RetentionRefIdeal.τ).loc Cert.RetentionRefIdeal.main_v109) i = v0 c i)
          ∧ r.2.mem ((c.tc : Thread Cert.RetentionRefIdeal.nD Cert.RetentionRefIdeal.τ).loc Cert.RetentionRefIdeal.main_arg0) = m' ((c.tc : Thread Cert.RetentionRefIdeal.nD Cert.RetentionRefIdeal.τ).loc Cert.RetentionRefIdeal.main_arg0)
          ∧ r.2.mem ((c.tc : Thread Cert.RetentionRefIdeal.nD Cert.RetentionRefIdeal.τ).loc Cert.RetentionRefIdeal.main_arg1) = m' ((c.tc : Thread Cert.RetentionRefIdeal.nD Cert.RetentionRefIdeal.τ).loc Cert.RetentionRefIdeal.main_arg1)
          ∧ r.2.mem ((c.tc : Thread Cert.RetentionRefIdeal.nD Cert.RetentionRefIdeal.τ).loc Cert.RetentionRefIdeal.main_arg2) = m' ((c.tc : Thread Cert.RetentionRefIdeal.nD Cert.RetentionRefIdeal.τ).loc Cert.RetentionRefIdeal.main_arg2)
          ∧ r.2.mem ((c.tc : Thread Cert.RetentionRefIdeal.nD Cert.RetentionRefIdeal.τ).loc Cert.RetentionRefIdeal.main_arg3) = m' ((c.tc : Thread Cert.RetentionRefIdeal.nD Cert.RetentionRefIdeal.τ).loc Cert.RetentionRefIdeal.main_arg3)
          ∧ r.2.mem ((c.tc : Thread Cert.RetentionRefIdeal.nD Cert.RetentionRefIdeal.τ).loc Cert.RetentionRefIdeal.main_arg4) = m' ((c.tc : Thread Cert.RetentionRefIdeal.nD Cert.RetentionRefIdeal.τ).loc Cert.RetentionRefIdeal.main_arg4)
          ∧ r.2.mem ((c.tc : Thread Cert.RetentionRefIdeal.nD Cert.RetentionRefIdeal.τ).loc Cert.RetentionRefIdeal.main_arg5) = m' ((c.tc : Thread Cert.RetentionRefIdeal.nD Cert.RetentionRefIdeal.τ).loc Cert.RetentionRefIdeal.main_arg5)
          ∧ r.2.mem ((c.tc : Thread Cert.RetentionRefIdeal.nD Cert.RetentionRefIdeal.τ).loc Cert.RetentionRefIdeal.main_arg6) = m' ((c.tc : Thread Cert.RetentionRefIdeal.nD Cert.RetentionRefIdeal.τ).loc Cert.RetentionRefIdeal.main_arg6)
          ∧ r.2.mem ((c.tc : Thread Cert.RetentionRefIdeal.nD Cert.RetentionRefIdeal.τ).loc Cert.RetentionRefIdeal.main_arg7) = m' ((c.tc : Thread Cert.RetentionRefIdeal.nD Cert.RetentionRefIdeal.τ).loc Cert.RetentionRefIdeal.main_arg7)
          ∧ r.2.mem ((c.tc : Thread Cert.RetentionRefIdeal.nD Cert.RetentionRefIdeal.τ).loc Cert.RetentionRefIdeal.main_arg8) = m' ((c.tc : Thread Cert.RetentionRefIdeal.nD Cert.RetentionRefIdeal.τ).loc Cert.RetentionRefIdeal.main_arg8)
          ∧ r.2.mem ((c.tc : Thread Cert.RetentionRefIdeal.nD Cert.RetentionRefIdeal.τ).loc Cert.RetentionRefIdeal.main_arg9) = m' ((c.tc : Thread Cert.RetentionRefIdeal.nD Cert.RetentionRefIdeal.τ).loc Cert.RetentionRefIdeal.main_arg9)
          ∧ r.2.mem ((c.tc : Thread Cert.RetentionRefIdeal.nD Cert.RetentionRefIdeal.τ).loc Cert.RetentionRefIdeal.main_arg10) = m' ((c.tc : Thread Cert.RetentionRefIdeal.nD Cert.RetentionRefIdeal.τ).loc Cert.RetentionRefIdeal.main_arg10)
          ∧ r.2.mem ((c.tc : Thread Cert.RetentionRefIdeal.nD Cert.RetentionRefIdeal.τ).loc Cert.RetentionRefIdeal.main_arg11) = m' ((c.tc : Thread Cert.RetentionRefIdeal.nD Cert.RetentionRefIdeal.τ).loc Cert.RetentionRefIdeal.main_arg11))

def Claim : Prop :=
  ∃ (hProj : Cert.Proj.Facts) (hProjIdeal : Cert.ProjIdeal.Facts) (hProjRefIdeal : Cert.ProjRefIdeal.Facts) (hKernel : Cert.Kernel.Facts) (hKernelIdeal : Cert.KernelIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hMixers : Cert.Mixers.Facts) (hMixersIdeal : Cert.MixersIdeal.Facts) (hRetentionRefIdeal : Cert.RetentionRefIdeal.Facts) (hOn_retention_columns : Cert.On_retention_columns.Facts),
    quiescent_Proj (hProj := hProj)
    ∧ quiescent_ProjIdeal (hProjIdeal := hProjIdeal)
    ∧ quiescent_ProjRefIdeal (hProjRefIdeal := hProjRefIdeal)
    ∧ quiescent_Kernel (hKernel := hKernel)
    ∧ quiescent_KernelIdeal (hKernelIdeal := hKernelIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Mixers (hMixers := hMixers)
    ∧ quiescent_MixersIdeal (hMixersIdeal := hMixersIdeal)
    ∧ quiescent_RetentionRefIdeal (hRetentionRefIdeal := hRetentionRefIdeal)
    ∧ preserves_Proj_ProjIdeal
    ∧ algebraic_ProjIdeal_ProjRefIdeal (hProjIdeal := hProjIdeal) (hProjRefIdeal := hProjRefIdeal)
    ∧ preserves_Kernel_KernelIdeal
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Mixers_MixersIdeal
    ∧ algebraic_MixersIdeal_RetentionRefIdeal_on_retention_columns (hMixersIdeal := hMixersIdeal) (hRetentionRefIdeal := hRetentionRefIdeal) (hOn_retention_columns := hOn_retention_columns)
-- ==== On_retention_columns.lean ====
abbrev S16384x3712 : Shape := ⟨2, ![16384, 3712]⟩
abbrev S1x512 : Shape := ⟨2, ![1, 512]⟩
abbrev S1x2176 : Shape := ⟨2, ![1, 2176]⟩
abbrev S1x64x512 : Shape := ⟨3, ![1, 64, 512]⟩
abbrev S1x8x64 : Shape := ⟨3, ![1, 8, 64]⟩
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)

variable [Facts]

def fn {F : FTy → Type} [FloatOps F] (main_arg0 : FVec F S16384x3712 .f32) (main_arg1 : FVec F S1x512 .f32) (main_arg2 : FVec F S1x2176 .f32) (main_arg3 : FVec F S1x64x512 .f32) (main_arg4 : FVec F S1x512 .f32) (main_arg5 : FVec F S1x64x512 .f32) (main_arg6 : FVec F S1x512 .f32) (main_arg7 : FVec F S1x512 .f32) (main_arg8 : FVec F S1x512 .f32) (main_arg9 : FVec F S1x8x64 .f32) (main_arg10 : FVec F S1x512 .f32) (main_arg11 : FVec F S1x512 .f32) : IVec S8x2048x1024 1 :=
  let main_v0 : IVec S8x2048x1024 32 := iotaInDim S8x2048x1024 32 2
  let main_c : IVec S_ 32 := constantI S_ 32 512#32
  let main_v1 : IVec S8x2048x1024 32 := broadcastInDim S8x2048x1024 ![] bcast_S_S8x2048x1024 main_c
  let main_v2 : IVec S8x2048x1024 1 := cmpi .slt main_v0 main_v1
  main_v2
-- ==== Proj.lean ====
abbrev S8x2048x1024 : Shape := ⟨3, ![8, 2048, 1024]⟩
abbrev S1x1024 : Shape := ⟨2, ![1, 1024]⟩
abbrev S1x1024x3712 : Shape := ⟨3, ![1, 1024, 3712]⟩
abbrev S1x2176 : Shape := ⟨2, ![1, 2176]⟩
abbrev S16384x1024 : Shape := ⟨2, ![16384, 1024]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1024 : Shape := ⟨1, ![1024]⟩
abbrev S1024x3712 : Shape := ⟨2, ![1024, 3712]⟩
abbrev S2176 : Shape := ⟨1, ![2176]⟩
abbrev S16384x3712 : Shape := ⟨2, ![16384, 3712]⟩
abbrev S512x1024 : Shape := ⟨2, ![512, 1024]⟩
abbrev S512x128 : Shape := ⟨2, ![512, 128]⟩
abbrev S512x3712 : Shape := ⟨2, ![512, 3712]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512 : Shape := ⟨2, ![1, 512]⟩
abbrev S1024x128 : Shape := ⟨2, ![1024, 128]⟩
abbrev S1x128 : Shape := ⟨2, ![1, 128]⟩

abbrev nBuf : Space → Nat
  | .hbm => 38
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3712, .f32⟩
  | .hbm, ⟨3, _⟩ => ⟨S1x2176, .f32⟩
  | .hbm, ⟨4, _⟩ => ⟨S16384x1024, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S2048, .i32⟩
  | .hbm, ⟨15, _⟩ => ⟨S2048, .f32⟩
  | .hbm, ⟨16, _⟩ => ⟨S2048x1, .f32⟩
  | .hbm, ⟨17, _⟩ => ⟨S1x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x64, .f32⟩
  | .hbm, ⟨24, _⟩ => ⟨S1x2048x1x64, .f32⟩
  | .hbm, ⟨25, _⟩ => ⟨S1x2048x2x64, .f32⟩
  | .hbm, ⟨26, _⟩ => ⟨S2048x128, .f32⟩
  | .hbm, ⟨27, _⟩ => ⟨S2048x32, .f32⟩
  | .hbm, ⟨28, _⟩ => ⟨S2048x64, .f32⟩
  | .hbm, ⟨29, _⟩ => ⟨S1x2048x1x64, .f32⟩
  | .hbm, ⟨30, _⟩ => ⟨S1x2048x2x64, .f32⟩
  | .hbm, ⟨31, _⟩ => ⟨S2048x128, .f32⟩
  | .hbm, ⟨32, _⟩ => ⟨S1024, .f32⟩
  | .hbm, ⟨33, _⟩ => ⟨S1x1024, .f32⟩
  | .hbm, ⟨34, _⟩ => ⟨S1024x3712, .f32⟩
  | .hbm, ⟨35, _⟩ => ⟨S2176, .f32⟩
  | .hbm, ⟨36, _⟩ => ⟨S1x2176, .f32⟩
  | .hbm, ⟨37, _⟩ => ⟨S16384x3712, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x2176, .f32⟩
  | .local _ .vmem, ⟨9, _⟩ => ⟨S512x3712, .f32⟩
  | .local _ .vmem, ⟨10, _⟩ => ⟨S512x3712, .f32⟩
  | .local _ .vmem, ⟨11, _⟩ => ⟨S1024x3712, .bf16⟩
  | .local _ .vmem, ⟨12, _⟩ => ⟨S1x2176, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2176 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3712 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjRefIdeal.lean ====
abbrev S8x2048x1024 : Shape := ⟨3, ![8, 2048, 1024]⟩
abbrev S1x1024 : Shape := ⟨2, ![1, 1024]⟩
abbrev S1x1024x3712 : Shape := ⟨3, ![1, 1024, 3712]⟩
abbrev S1x2176 : Shape := ⟨2, ![1, 2176]⟩
abbrev S2048 : Shape := ⟨1, ![2048]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3712 : Shape := ⟨2, ![1024, 3712]⟩
abbrev S8x2048x3712 : Shape := ⟨3, ![8, 2048, 3712]⟩
abbrev S8x2048x1536 : Shape := ⟨3, ![8, 2048, 1536]⟩
abbrev S8x2048x2176 : Shape := ⟨3, ![8, 2048, 2176]⟩
abbrev S8x2048x256 : Shape := ⟨3, ![8, 2048, 256]⟩
abbrev S8x2048x512 : Shape := ⟨3, ![8, 2048, 512]⟩
abbrev S8x2048x4x64 : Shape := ⟨4, ![8, 2048, 4, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x4x32 : Shape := ⟨4, ![8, 2048, 4, 32]⟩
abbrev S8x2049x2176 : Shape := ⟨3, ![8, 2049, 2176]⟩
abbrev S2176 : Shape := ⟨1, ![2176]⟩
abbrev S1x1x2176 : Shape := ⟨3, ![1, 1, 2176]⟩
abbrev S8x2048x128 : Shape := ⟨3, ![8, 2048, 128]⟩
abbrev S16384x3712 : Shape := ⟨2, ![16384, 3712]⟩

abbrev nBuf : Space → Nat
  | .hbm => 131
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x3712, .f32⟩
  | 3 => ⟨S1x2176, .f32⟩
  | 4 => ⟨S2048, .i32⟩
  | 5 => ⟨S1024, .f32⟩
  | 6 => ⟨S8x2048x1024, .f32⟩
  | 7 => ⟨S_, .f32⟩
  | 8 => ⟨S8x2048, .f32⟩
  | 9 => ⟨S8x2048x1, .f32⟩
  | 10 => ⟨S_, .f32⟩
  | 11 => ⟨S8x2048x1, .f32⟩
  | 12 => ⟨S8x2048x1, .f32⟩
  | 13 => ⟨S_, .f32⟩
  | 14 => ⟨S8x2048x1, .f32⟩
  | 15 => ⟨S8x2048x1, .f32⟩
  | 16 => ⟨S8x2048x1, .f32⟩
  | 17 => ⟨S8x2048x1024, .f32⟩
  | 18 => ⟨S8x2048x1024, .f32⟩
  | 19 => ⟨S1x1x1024, .f32⟩
  | 20 => ⟨S8x2048x1024, .f32⟩
  | 21 => ⟨S8x2048x1024, .f32⟩
  | 22 => ⟨S1024x3712, .f32⟩
  | 23 => ⟨S8x2048x3712, .f32⟩
  | 24 => ⟨S8x2048x1536, .f32⟩
  | 25 => ⟨S8x2048x2176, .f32⟩
  | 26 => ⟨S8x2048x256, .f32⟩
  | 27 => ⟨S8x2048x256, .f32⟩
  | 28 => ⟨S8x2048x512, .f32⟩
  | 29 => ⟨S8x2048x512, .f32⟩
  | 30 => ⟨S8x2048x4x64, .f32⟩
  | 31 => ⟨S32, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S32, .f32⟩
  | 40 => ⟨S2048, .f32⟩
  | 41 => ⟨S2048x1, .f32⟩
  | 42 => ⟨S1x32, .f32⟩
  | 43 => ⟨S2048x32, .f32⟩
  | 44 => ⟨S2048x32, .f32⟩
  | 45 => ⟨S2048x32, .f32⟩
  | 46 => ⟨S2048x32, .f32⟩
  | 47 => ⟨S1x2048x1x32, .f32⟩
  | 48 => ⟨S2048x32, .f32⟩
  | 49 => ⟨S1x2048x1x32, .f32⟩
  | 50 => ⟨S8x2048x4x32, .f32⟩
  | 51 => ⟨S8x2048x4x32, .f32⟩
  | 52 => ⟨S8x2048x4x32, .f32⟩
  | 53 => ⟨S8x2048x4x32, .f32⟩
  | 54 => ⟨S8x2048x4x32, .f32⟩
  | 55 => ⟨S8x2048x4x32, .f32⟩
  | 56 => ⟨S8x2048x4x32, .f32⟩
  | 57 => ⟨S8x2048x4x32, .f32⟩
  | 58 => ⟨S8x2048x4x32, .f32⟩
  | 59 => ⟨S8x2048x4x32, .f32⟩
  | 60 => ⟨S8x2048x4x32, .f32⟩
  | 61 => ⟨S8x2048x4x32, .f32⟩
  | 62 => ⟨S8x2048x4x64, .f32⟩
  | 63 => ⟨S8x2048x256, .f32⟩
  | 64 => ⟨S8x2048x4x64, .f32⟩
  | 65 => ⟨S32, .f32⟩
  | 66 => ⟨S32, .f32⟩
  | 67 => ⟨S_, .f32⟩
  | 68 => ⟨S32, .f32⟩
  | 69 => ⟨S32, .f32⟩
  | 70 => ⟨S_, .f32⟩
  | 71 => ⟨S32, .f32⟩
  | 72 => ⟨S32, .f32⟩
  | 73 => ⟨S32, .f32⟩
  | 74 => ⟨S2048, .f32⟩
  | 75 => ⟨S2048x1, .f32⟩
  | 76 => ⟨S1x32, .f32⟩
  | 77 => ⟨S2048x32, .f32⟩
  | 78 => ⟨S2048x32, .f32⟩
  | 79 => ⟨S2048x32, .f32⟩
  | 80 => ⟨S2048x32, .f32⟩
  | 81 => ⟨S1x2048x1x32, .f32⟩
  | 82 => ⟨S2048x32, .f32⟩
  | 83 => ⟨S1x2048x1x32, .f32⟩
  | 84 => ⟨S8x2048x4x32, .f32⟩
  | 85 => ⟨S8x2048x4x32, .f32⟩
  | 86 => ⟨S8x2048x4x32, .f32⟩
  | 87 => ⟨S8x2048x4x32, .f32⟩
  | 88 => ⟨S8x2048x4x32, .f32⟩
  | 89 => ⟨S8x2048x4x32, .f32⟩
  | 90 => ⟨S8x2048x4x32, .f32⟩
  | 91 => ⟨S8x2048x4x32, .f32⟩
  | 92 => ⟨S8x2048x4x32, .f32⟩
  | 93 => ⟨S8x2048x4x32, .f32⟩
  | 94 => ⟨S8x2048x4x32, .f32⟩
  | 95 => ⟨S8x2048x4x32, .f32⟩
  | 96 => ⟨S8x2048x4x64, .f32⟩
  | 97 => ⟨S8x2048x256, .f32⟩
  | 98 => ⟨S_, .i32⟩
  | 99 => ⟨S_, .f32⟩
  | 100 => ⟨S8x2049x2176, .f32⟩
  | 101 => ⟨S8x2048x2176, .f32⟩
  | 102 => ⟨S2176, .f32⟩
  | 103 => ⟨S8x2048x2176, .f32⟩
  | 104 => ⟨S1x1x2176, .f32⟩
  | 105 => ⟨S8x2048x2176, .f32⟩
  | 106 => ⟨S8x2048x2176, .f32⟩
  | 107 => ⟨S8x2048x2176, .f32⟩
  | 108 => ⟨S8x2048x1536, .f32⟩
  | 109 => ⟨S8x2048x512, .f32⟩
  | 110 => ⟨S8x2048x128, .f32⟩
  | 111 => ⟨S8x2048x512, .f32⟩
  | 112 => ⟨S8x2048x512, .f32⟩
  | 113 => ⟨S_, .f32⟩
  | 114 => ⟨S8x2048x512, .f32⟩
  | 115 => ⟨S8x2048x512, .f32⟩
  | 116 => ⟨S_, .f32⟩
  | 117 => ⟨S8x2048x512, .f32⟩
  | 118 => ⟨S8x2048x512, .f32⟩
  | 119 => ⟨S8x2048x512, .f32⟩
  | 120 => ⟨S8x2048x512, .f32⟩
  | 121 => ⟨S8x2048x512, .f32⟩
  | 122 => ⟨S_, .f32⟩
  | 123 => ⟨S8x2048x512, .f32⟩
  | 124 => ⟨S8x2048x512, .f32⟩
  | 125 => ⟨S_, .f32⟩
  | 126 => ⟨S8x2048x512, .f32⟩
  | 127 => ⟨S8x2048x512, .f32⟩
  | _ => ⟨S8x2048x1024, .f32⟩

abbrev hbmTy0_1 (i : Nat) : BufTy := match i % 128 with
  | 0 => ⟨S8x2048x512, .f32⟩
  | 1 => ⟨S8x2048x3712, .f32⟩
  | 2 => ⟨S16384x3712, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_4 : Ref sig .tc := ⟨.hbm, 67, rfl⟩
abbrev main_v58 : Ref sig .tc := ⟨.hbm, 68, rfl⟩
abbrev main_v59 : Ref sig .tc := ⟨.hbm, 69, rfl⟩
abbrev main_cst_5 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_c : Ref sig .tc := ⟨.hbm, 98, rfl⟩
abbrev main_call0_v0 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_call1_v5 : Ref sig .tc := ⟨.hbm, 118, rfl⟩
abbrev main_v98 : Ref sig .tc := ⟨.hbm, 119, rfl⟩
abbrev main_call2_v0 : Ref sig .tc := ⟨.hbm, 120, rfl⟩
abbrev main_call2_v1 : Ref sig .tc := ⟨.hbm, 121, rfl⟩
abbrev main_call2_cst : Ref sig .tc := ⟨.hbm, 122, rfl⟩
abbrev main_call2_v2 : Ref sig .tc := ⟨.hbm, 123, rfl⟩
abbrev main_call2_v3 : Ref sig .tc := ⟨.hbm, 124, rfl⟩
abbrev main_call2_cst_0 : Ref sig .tc := ⟨.hbm, 125, rfl⟩
abbrev main_call2_v4 : Ref sig .tc := ⟨.hbm, 126, rfl⟩
abbrev main_call2_v5 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩

abbrev nD : Nat := 1
abbrev τ : Topo := Topo.v7x

variable {F : FTy → Type} [FloatOps F]
-- ==== Kernel.lean ====
abbrev S16384x3712 : Shape := ⟨2, ![16384, 3712]⟩
abbrev S3x64x256 : Shape := ⟨3, ![3, 64, 256]⟩
abbrev S256x256 : Shape := ⟨2, ![256, 256]⟩
abbrev S8x2048x1024 : Shape := ⟨3, ![8, 2048, 1024]⟩
abbrev S1x512 : Shape := ⟨2, ![1, 512]⟩
abbrev S1x64x512 : Shape := ⟨3, ![1, 64, 512]⟩
abbrev S1x8x64 : Shape := ⟨3, ![1, 8, 64]⟩
abbrev S1x1024x1024 : Shape := ⟨3, ![1, 1024, 1024]⟩
abbrev S1024 : Shape := ⟨1, ![1024]⟩
abbrev S8x2048x3712 : Shape := ⟨3, ![8, 2048, 3712]⟩
abbrev S64x512 : Shape := ⟨2, ![64, 512]⟩
abbrev S512 : Shape := ⟨1, ![512]⟩
abbrev S1024x1024 : Shape := ⟨2, ![1024, 1024]⟩
abbrev S1x1024 : Shape := ⟨2, ![1, 1024]⟩
abbrev S8x64x3712 : Shape := ⟨3, ![8, 64, 3712]⟩
abbrev S8x64x1024 : Shape := ⟨3, ![8, 64, 1024]⟩
abbrev S8x2x64x256 : Shape := ⟨4, ![8, 2, 64, 256]⟩
abbrev S8x4x64x128 : Shape := ⟨4, ![8, 4, 64, 128]⟩
abbrev S128x1024 : Shape := ⟨2, ![128, 1024]⟩
abbrev S64x1024 : Shape := ⟨2, ![64, 1024]⟩
abbrev S8x64x512 : Shape := ⟨3, ![8, 64, 512]⟩
abbrev S512x512 : Shape := ⟨2, ![512, 512]⟩
abbrev S8x64x128 : Shape := ⟨3, ![8, 64, 128]⟩
abbrev S512x128 : Shape := ⟨2, ![512, 128]⟩
abbrev S512x1024 : Shape := ⟨2, ![512, 1024]⟩
abbrev S512x256 : Shape := ⟨2, ![512, 256]⟩
abbrev S1024x256 : Shape := ⟨2, ![1024, 256]⟩
abbrev S8x64x256 : Shape := ⟨3, ![8, 64, 256]⟩
abbrev S64x256 : Shape := ⟨2, ![64, 256]⟩
abbrev S1x4x64x128 : Shape := ⟨4, ![1, 4, 64, 128]⟩
abbrev S4x64x128 : Shape := ⟨3, ![4, 64, 128]⟩
abbrev S1x64x256 : Shape := ⟨3, ![1, 64, 256]⟩
abbrev S64x128 : Shape := ⟨2, ![64, 128]⟩
abbrev S256x128 : Shape := ⟨2, ![256, 128]⟩
abbrev S1x64x128 : Shape := ⟨3, ![1, 64, 128]⟩
abbrev S128x128 : Shape := ⟨2, ![128, 128]⟩
abbrev S256x64 : Shape := ⟨2, ![256, 64]⟩
abbrev S64x64 : Shape := ⟨2, ![64, 64]⟩
abbrev S1x1x64x256 : Shape := ⟨4, ![1, 1, 64, 256]⟩
abbrev S128x256 : Shape := ⟨2, ![128, 256]⟩
abbrev S1x256 : Shape := ⟨2, ![1, 256]⟩
abbrev S128x512 : Shape := ⟨2, ![128, 512]⟩
abbrev S512x1 : Shape := ⟨2, ![512, 1]⟩
abbrev S1x128 : Shape := ⟨2, ![1, 128]⟩

abbrev nBuf : Space → Nat
  | .hbm => 25
  | .vmem => 25
  | .smem => 0
  | _ => 0

abbrev bufTy : (tb : Table) → Fin (tcTables nBuf tb) → BufTy
  | .hbm, ⟨0, _⟩ => ⟨S16384x3712, .f32⟩
  | .hbm, ⟨1, _⟩ => ⟨S3x64x256, .f32⟩
  | .hbm, ⟨2, _⟩ => ⟨S256x256, .bf16⟩
  | .hbm, ⟨3, _⟩ => ⟨S8x2048x1024, .f32⟩
  | .hbm, ⟨4, _⟩ => ⟨S1x512, .f32⟩
  | .hbm, ⟨5, _⟩ => ⟨S1x64x512, .f32⟩
  | .hbm, ⟨6, _⟩ => ⟨S1x512, .f32⟩
  | .hbm, ⟨7, _⟩ => ⟨S1x64x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x8x64, .f32⟩
  | .hbm, ⟨12, _⟩ => ⟨S1x512, .f32⟩
  | .hbm, ⟨13, _⟩ => ⟨S1x512, .f32⟩
  | .hbm, ⟨14, _⟩ => ⟨S1x1024x1024, .f32⟩
  | .hbm, ⟨15, _⟩ => ⟨S1024, .f32⟩
  | .hbm, ⟨16, _⟩ => ⟨S1x512, .f32⟩
  | .hbm, ⟨17, _⟩ => ⟨S8x2048x3712, .f32⟩
  | .hbm, ⟨18, _⟩ => ⟨S64x512, .f32⟩
  | .hbm, ⟨19, _⟩ => ⟨S64x512, .f32⟩
  | .hbm, ⟨20, _⟩ => ⟨S512, .f32⟩
  | .hbm, ⟨21, _⟩ => ⟨S1x512, .f32⟩
  | .hbm, ⟨22, _⟩ => ⟨S1024x1024, .f32⟩
  | .hbm, ⟨23, _⟩ => ⟨S1x1024, .f32⟩
  | .hbm, ⟨24, _⟩ => ⟨S8x2048x1024, .f32⟩
  | .local _ .vmem, ⟨0, _⟩ => ⟨S8x64x3712, .f32⟩
  | .local _ .vmem, ⟨1, _⟩ => ⟨S8x64x3712, .f32⟩
  | .local _ .vmem, ⟨2, _⟩ => ⟨S3x64x256, .f32⟩
  | .local _ .vmem, ⟨3, _⟩ => ⟨S64x512, .f32⟩
  | .local _ .vmem, ⟨4, _⟩ => ⟨S64x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S256x256, .bf16⟩
  | .local _ .vmem, ⟨14, _⟩ => ⟨S8x64x1024, .f32⟩
  | .local _ .vmem, ⟨15, _⟩ => ⟨S8x64x1024, .f32⟩
  | .local _ .vmem, ⟨16, _⟩ => ⟨S1024x1024, .f32⟩
  | .local _ .vmem, ⟨17, _⟩ => ⟨S1x1024, .f32⟩
  | .local _ .vmem, ⟨18, _⟩ => ⟨S8x64x1024, .f32⟩
  | .local _ .vmem, ⟨19, _⟩ => ⟨S8x64x1024, .f32⟩
  | .local _ .vmem, ⟨20, _⟩ => ⟨S8x64x1024, .bf16⟩
  | .local _ .vmem, ⟨21, _⟩ => ⟨S8x2x64x256, .f32⟩
  | .local _ .vmem, ⟨22, _⟩ => ⟨S8x4x64x128, .f32⟩
  | .local _ .vmem, ⟨23, _⟩ => ⟨S1024x1024, .bf16⟩
  | .local _ .vmem, ⟨24, _⟩ => ⟨S128x1024, .bf16⟩
  | _, _ => ⟨S16384x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x3712 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S8x64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S8x64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== InProj.lean ====
abbrev S8x2048x1024 : Shape := ⟨3, ![8, 2048, 1024]⟩
abbrev S1x1024 : Shape := ⟨2, ![1, 1024]⟩
abbrev S1x1024x3712 : Shape := ⟨3, ![1, 1024, 3712]⟩
abbrev S16384x1024 : Shape := ⟨2, ![16384, 1024]⟩
abbrev S1024 : Shape := ⟨1, ![1024]⟩
abbrev S1024x3712 : Shape := ⟨2, ![1024, 3712]⟩
abbrev S16384x3712 : Shape := ⟨2, ![16384, 3712]⟩
abbrev S512x1024 : Shape := ⟨2, ![512, 1024]⟩
abbrev S512x3712 : Shape := ⟨2, ![512, 3712]⟩
abbrev S512 : Shape := ⟨1, ![512]⟩
abbrev S512x1 : Shape := ⟨2, ![512, 1]⟩

abbrev nBuf : Space → Nat
  | .hbm => 9
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3712, .f32⟩
  | .hbm, ⟨3, _⟩ => ⟨S16384x1024, .f32⟩
  | .hbm, ⟨4, _⟩ => ⟨S1024, .f32⟩
  | .hbm, ⟨5, _⟩ => ⟨S1x1024, .f32⟩
  | .hbm, ⟨6, _⟩ => ⟨S1024x3712, .f32⟩
  | .hbm, ⟨7, _⟩ => ⟨S1024x3712, .bf16⟩
  | .hbm, ⟨8, _⟩ => ⟨S16384x3712, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S512x3712, .f32⟩
  | .local _ .vmem, ⟨5, _⟩ => ⟨S512x3712, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3712 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProjRefIdeal.lean ====
abbrev S8x2048x1024 : Shape := ⟨3, ![8, 2048, 1024]⟩
abbrev S1x1024 : Shape := ⟨2, ![1, 1024]⟩
abbrev S1x1024x3712 : Shape := ⟨3, ![1, 1024, 3712]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S1024x3712 : Shape := ⟨2, ![1024, 3712]⟩
abbrev S8x2048x3712 : Shape := ⟨3, ![8, 2048, 3712]⟩
abbrev S16384x3712 : Shape := ⟨2, ![16384, 3712]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3712, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S1024x3712, .f32⟩
  | .hbm, ⟨21, _⟩ => ⟨S8x2048x3712, .f32⟩
  | .hbm, ⟨22, _⟩ => ⟨S16384x3712, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== OutProj.lean ====
abbrev S8x2048x1024 : Shape := ⟨3, ![8, 2048, 1024]⟩
abbrev S1x1024x1024 : Shape := ⟨3, ![1, 1024, 1024]⟩
abbrev S1024 : Shape := ⟨1, ![1024]⟩
abbrev S16384x1024 : Shape := ⟨2, ![16384, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S1x1024x1024, .f32⟩
  | .hbm, ⟨3, _⟩ => ⟨S1024, .f32⟩
  | .hbm, ⟨4, _⟩ => ⟨S16384x1024, .f32⟩
  | .hbm, ⟨5, _⟩ => ⟨S16384x1024, .bf16⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutProjRefIdeal.lean ====
abbrev S8x2048x1024 : Shape := ⟨3, ![8, 2048, 1024]⟩
abbrev S1x1024x1024 : Shape := ⟨3, ![1, 1024, 1024]⟩
abbrev S1024 : Shape := ⟨1, ![1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S1x1024x1024, .f32⟩
  | .hbm, ⟨3, _⟩ => ⟨S1024, .f32⟩
  | .hbm, ⟨4, _⟩ => ⟨S8x2048x1024, .f32⟩
  | .hbm, ⟨5, _⟩ => ⟨S1024x1024, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Mixers.lean ====
abbrev S16384x3712 : Shape := ⟨2, ![16384, 3712]⟩
abbrev S1x512 : Shape := ⟨2, ![1, 512]⟩
abbrev S1x2176 : Shape := ⟨2, ![1, 2176]⟩
abbrev S1x64x512 : Shape := ⟨3, ![1, 64, 512]⟩
abbrev S1x8x64 : Shape := ⟨3, ![1, 8, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S4 : Shape := ⟨1, ![4]⟩
abbrev S4x1 : Shape := ⟨2, ![4, 1]⟩
abbrev S4x64 : Shape := ⟨2, ![4, 64]⟩
abbrev S1x256 : Shape := ⟨2, ![1, 256]⟩
abbrev S64 : Shape := ⟨1, ![64]⟩
abbrev S64x1 : Shape := ⟨2, ![64, 1]⟩
abbrev S1x64 : Shape := ⟨2, ![1, 64]⟩
abbrev S64x256 : Shape := ⟨2, ![64, 256]⟩
abbrev S1x64x256 : Shape := ⟨3, ![1, 64, 256]⟩
abbrev S3x64x256 : Shape := ⟨3, ![3, 64, 256]⟩
abbrev S256x512 : Shape := ⟨2, ![256, 512]⟩
abbrev S256 : Shape := ⟨1, ![256]⟩
abbrev S256x1 : Shape := ⟨2, ![256, 1]⟩
abbrev S64x512 : Shape := ⟨2, ![64, 512]⟩
abbrev S64x1024 : Shape := ⟨2, ![64, 1024]⟩
abbrev S128x1024 : Shape := ⟨2, ![128, 1024]⟩
abbrev S512 : Shape := ⟨1, ![512]⟩
abbrev S8x64 : Shape := ⟨2, ![8, 64]⟩
abbrev S8x512 : Shape := ⟨2, ![8, 512]⟩
abbrev S256x256 : Shape := ⟨2, ![256, 256]⟩
abbrev S8x2048x3712 : Shape := ⟨3, ![8, 2048, 3712]⟩
abbrev S2176 : Shape := ⟨1, ![2176]⟩
abbrev S8x2048x1024 : Shape := ⟨3, ![8, 2048, 1024]⟩
abbrev S4x64x3712 : Shape := ⟨3, ![4, 64, 3712]⟩
abbrev S4x64x1024 : Shape := ⟨3, ![4, 64, 1024]⟩
abbrev S4x1x2176 : Shape := ⟨3, ![4, 1, 2176]⟩
abbrev S4x2x256x256 : Shape := ⟨4, ![4, 2, 256, 256]⟩
abbrev S4x256x512 : Shape := ⟨3, ![4, 256, 512]⟩
abbrev S4x64x256 : Shape := ⟨3, ![4, 64, 256]⟩
abbrev S4x64x512 : Shape := ⟨3, ![4, 64, 512]⟩
abbrev S1x256x512 : Shape := ⟨3, ![1, 256, 512]⟩
abbrev S256x128 : Shape := ⟨2, ![256, 128]⟩
abbrev S4x64x128 : Shape := ⟨3, ![4, 64, 128]⟩
abbrev S1x128 : Shape := ⟨2, ![1, 128]⟩
abbrev S4x64x2176 : Shape := ⟨3, ![4, 64, 2176]⟩
abbrev S256x2176 : Shape := ⟨2, ![256, 2176]⟩
abbrev S1x1x2176 : Shape := ⟨3, ![1, 1, 2176]⟩
abbrev S256x1024 : Shape := ⟨2, ![256, 1024]⟩
abbrev S512x256 : Shape := ⟨2, ![512, 256]⟩
abbrev S1024x256 : Shape := ⟨2, ![1024, 256]⟩
abbrev S1x1x256x256 : Shape := ⟨4, ![1, 1, 256, 256]⟩
abbrev S64x64 : Shape := ⟨2, ![64, 64]⟩
abbrev S128x256 : Shape := ⟨2, ![128, 256]⟩
abbrev S128x512 : Shape := ⟨2, ![128, 512]⟩

abbrev nBuf : Space → Nat
  | .hbm => 159
  | .vmem => 18
  | .smem => 0
  | _ => 0

abbrev hbmTy0_0 (i : Nat) : BufTy := match i % 128 with
  | 0 => ⟨S16384x3712, .f32⟩
  | 1 => ⟨S1x512, .f32⟩
  | 2 => ⟨S1x2176, .f32⟩
  | 3 => ⟨S1x64x512, .f32⟩
  | 4 => ⟨S1x512, .f32⟩
  | 5 => ⟨S1x64x512, .f32⟩
  | 6 => ⟨S1x512, .f32⟩
  | 7 => ⟨S1x512, .f32⟩
  | 8 => ⟨S1x512, .f32⟩
  | 9 => ⟨S1x8x64, .f32⟩
  | 10 => ⟨S1x512, .f32⟩
  | 11 => ⟨S1x512, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S32, .f32⟩
  | 21 => ⟨S2048, .i32⟩
  | 22 => ⟨S2048, .f32⟩
  | 23 => ⟨S2048x1, .f32⟩
  | 24 => ⟨S1x32, .f32⟩
  | 25 => ⟨S2048x32, .f32⟩
  | 26 => ⟨S2048x32, .f32⟩
  | 27 => ⟨S2048x32, .f32⟩
  | 28 => ⟨S2048x32, .f32⟩
  | 29 => ⟨S2048x32, .f32⟩
  | 30 => ⟨S2048x64, .f32⟩
  | 31 => ⟨S1x2048x1x64, .f32⟩
  | 32 => ⟨S1x2048x4x64, .f32⟩
  | 33 => ⟨S2048x256, .f32⟩
  | 34 => ⟨S2048x32, .f32⟩
  | 35 => ⟨S2048x64, .f32⟩
  | 36 => ⟨S1x2048x1x64, .f32⟩
  | 37 => ⟨S1x2048x4x64, .f32⟩
  | 38 => ⟨S2048x256, .f32⟩
  | 39 => ⟨S4, .f32⟩
  | 40 => ⟨S_, .f32⟩
  | 41 => ⟨S4, .f32⟩
  | 42 => ⟨S4, .f32⟩
  | 43 => ⟨S_, .f32⟩
  | 44 => ⟨S4, .f32⟩
  | 45 => ⟨S4, .f32⟩
  | 46 => ⟨S4, .f32⟩
  | 47 => ⟨S_, .f32⟩
  | 48 => ⟨S4, .f32⟩
  | 49 => ⟨S4, .f32⟩
  | 50 => ⟨S4, .f32⟩
  | 51 => ⟨S4x1, .f32⟩
  | 52 => ⟨S4x64, .f32⟩
  | 53 => ⟨S1x256, .f32⟩
  | 54 => ⟨S64, .f32⟩
  | 55 => ⟨S64x1, .f32⟩
  | 56 => ⟨S64, .f32⟩
  | 57 => ⟨S1x64, .f32⟩
  | 58 => ⟨S4x64, .f32⟩
  | 59 => ⟨S1x256, .f32⟩
  | 60 => ⟨S64x256, .f32⟩
  | 61 => ⟨S64x256, .f32⟩
  | 62 => ⟨S64x256, .f32⟩
  | 63 => ⟨S64x256, .f32⟩
  | 64 => ⟨S64x256, .f32⟩
  | 65 => ⟨S64x256, .f32⟩
  | 66 => ⟨S64x256, .f32⟩
  | 67 => ⟨S_, .f32⟩
  | 68 => ⟨S64x256, .f32⟩
  | 69 => ⟨S64x256, .f32⟩
  | 70 => ⟨S_, .f32⟩
  | 71 => ⟨S64x1, .f32⟩
  | 72 => ⟨S64x1, .f32⟩
  | 73 => ⟨S64x256, .f32⟩
  | 74 => ⟨S64x256, .f32⟩
  | 75 => ⟨S64x256, .f32⟩
  | 76 => ⟨S64x256, .f32⟩
  | 77 => ⟨S_, .f32⟩
  | 78 => ⟨S64x1, .f32⟩
  | 79 => ⟨S64x1, .f32⟩
  | 80 => ⟨S64x256, .f32⟩
  | 81 => ⟨S64x256, .f32⟩
  | 82 => ⟨S64x256, .f32⟩
  | 83 => ⟨S64x256, .f32⟩
  | 84 => ⟨S_, .f32⟩
  | 85 => ⟨S64x256, .f32⟩
  | 86 => ⟨S64x256, .f32⟩
  | 87 => ⟨S1x64x256, .f32⟩
  | 88 => ⟨S1x64x256, .f32⟩
  | 89 => ⟨S1x64x256, .f32⟩
  | 90 => ⟨S3x64x256, .f32⟩
  | 91 => ⟨S256x512, .i32⟩
  | 92 => ⟨S_, .i32⟩
  | 93 => ⟨S256x512, .i32⟩
  | 94 => ⟨S256x512, .i32⟩
  | 95 => ⟨S256x512, .i32⟩
  | 96 => ⟨S_, .i32⟩
  | 97 => ⟨S256x512, .i32⟩
  | 98 => ⟨S256x512, .i32⟩
  | 99 => ⟨S256x512, .i1⟩
  | 100 => ⟨S256, .f32⟩
  | 101 => ⟨S_, .f32⟩
  | 102 => ⟨S256, .f32⟩
  | 103 => ⟨S256, .f32⟩
  | 104 => ⟨S256, .f32⟩
  | 105 => ⟨S256x1, .f32⟩
  | 106 => ⟨S_, .f32⟩
  | 107 => ⟨S_, .f32⟩
  | 108 => ⟨S256x512, .f32⟩
  | 109 => ⟨S256x512, .f32⟩
  | 110 => ⟨S256x512, .f32⟩
  | 111 => ⟨S_, .f32⟩
  | 112 => ⟨S64x512, .f32⟩
  | 113 => ⟨S64x512, .f32⟩
  | 114 => ⟨S64x1024, .f32⟩
  | 115 => ⟨S64x512, .f32⟩
  | 116 => ⟨S64x1024, .f32⟩
  | 117 => ⟨S128x1024, .f32⟩
  | 118 => ⟨S128x1024, .bf16⟩
  | 119 => ⟨S512, .f32⟩
  | 120 => ⟨S512, .f32⟩
  | 121 => ⟨S512, .f32⟩
  | 122 => ⟨S512, .f32⟩
  | 123 => ⟨S8x64, .f32⟩
  | 124 => ⟨S512, .f32⟩
  | 125 => ⟨S512, .f32⟩
  | 126 => ⟨S512, .f32⟩
  | 127 => ⟨S_, .f32⟩
  | _ => ⟨S16384x3712, .f32⟩

abbrev hbmTy0_1 (i : Nat) : BufTy := match i % 128 with
  | 0 => ⟨S512, .f32⟩
  | 1 => ⟨S1x512, .f32⟩
  | 2 => ⟨S1x512, .f32⟩
  | 3 => ⟨S1x512, .f32⟩
  | 4 => ⟨S1x512, .f32⟩
  | 5 => ⟨S1x512, .f32⟩
  | 6 => ⟨S1x512, .f32⟩
  | 7 => ⟨S1x512, .f32⟩
  | 8 => ⟨S1x512, .f32⟩
  | 9 => ⟨S8x512, .f32⟩
  | 10 => ⟨S256x256, .i32⟩
  | 11 => ⟨S_, .i32⟩
  | 12 => ⟨S256x256, .i32⟩
  | 13 => ⟨S256x256, .i32⟩
  | 14 => ⟨S256x256, .i32⟩
  | 15 => ⟨S_, .i32⟩
  | 16 => ⟨S256x256, .i32⟩
  | 17 => ⟨S256x256, .i32⟩
  | 18 => ⟨S256x256, .i1⟩
  | 19 => ⟨S_, .f32⟩
  | 20 => ⟨S_, .f32⟩
  | 21 => ⟨S256x256, .f32⟩
  | 22 => ⟨S256x256, .f32⟩
  | 23 => ⟨S256x256, .f32⟩
  | 24 => ⟨S256x256, .bf16⟩
  | 25 => ⟨S8x2048x3712, .f32⟩
  | 26 => ⟨S2176, .f32⟩
  | 27 => ⟨S1x2176, .f32⟩
  | 28 => ⟨S512, .f32⟩
  | 29 => ⟨S1x512, .f32⟩
  | 30 => ⟨S8x2048x1024, .bf16⟩
  | _ => ⟨S16384x3712, .f32⟩

abbrev hbmTy (i : Nat) : BufTy := match i / 128 with
  | 0 => hbmTy0_0 i
  | 1 => hbmTy0_1 i
  | _ => ⟨S16384x3712, .f32⟩

abbrev bufTy : (tb : Table) → Fin (tcTables nBuf tb) → BufTy
  | .hbm, ⟨i, _⟩ => hbmTy i
  | .local _ .vmem, ⟨0, _⟩ => ⟨S4x64x3712, .f32⟩
  | .local _ .vmem, ⟨1, _⟩ => ⟨S4x64x3712, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S3x64x256, .f32⟩
  | .local _ .vmem, ⟨7, _⟩ => ⟨S256x512, .f32⟩
  | .local _ .vmem, ⟨8, _⟩ => ⟨S1x2176, .f32⟩
  | .local _ .vmem, ⟨9, _⟩ => ⟨S128x1024, .bf16⟩
  | .local _ .vmem, ⟨10, _⟩ => ⟨S8x512, .f32⟩
  | .local _ .vmem, ⟨11, _⟩ => ⟨S1x512, .f32⟩
  | .local _ .vmem, ⟨12, _⟩ => ⟨S256x256, .bf16⟩
  | .local _ .vmem, ⟨13, _⟩ => ⟨S4x64x1024, .bf16⟩
  | .local _ .vmem, ⟨14, _⟩ => ⟨S4x64x1024, .bf16⟩
  | .local _ .vmem, ⟨15, _⟩ => ⟨S4x1x2176, .f32⟩
  | .local _ .vmem, ⟨16, _⟩ => ⟨S4x2x256x256, .f32⟩
  | .local _ .vmem, ⟨17, _⟩ => ⟨S4x256x512, .f32⟩
  | _, _ => ⟨S16384x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_4 : Ref sig .tc := ⟨.hbm, 67, rfl⟩
abbrev main_v50 : Ref sig .tc := ⟨.hbm, 68, rfl⟩
abbrev main_v51 : Ref sig .tc := ⟨.hbm, 69, rfl⟩
abbrev main_cst_5 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_6 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_7 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_c : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_8 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_9 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_10 : Ref sig .tc := ⟨.hbm, 106, rfl⟩
abbrev main_call0_v0 : Ref sig .tc := ⟨.hbm, 107, rfl⟩
abbrev main_call0_v1 : Ref sig .tc := ⟨.hbm, 108, rfl⟩
abbrev main_call0_v2 : Ref sig .tc := ⟨.hbm, 109, rfl⟩
abbrev main_v82 : Ref sig .tc := ⟨.hbm, 110, rfl⟩
abbrev main_cst_11 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_12 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_c_13 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_c_14 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_15 : Ref sig .tc := ⟨.hbm, 147, rfl⟩
abbrev main_cst_16 : Ref sig .tc := ⟨.hbm, 148, rfl⟩
abbrev main_call1_v0 : Ref sig .tc := ⟨.hbm, 149, rfl⟩
abbrev main_call1_v1 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x64x3712 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S3x64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2176 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S4x64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixersIdeal.lean ====
variable {F : FTy → Type} [FloatOps F] [Named F]
def κ : String → Option EReal := fun
  | "floor" => some ((5316911940649 / 5316911983139663491615228241121378304 : ℝ) : EReal)
  | _ => none
-- ==== RetentionRefIdeal.lean ====
abbrev S16384x3712 : Shape := ⟨2, ![16384, 3712]⟩
abbrev S1x512 : Shape := ⟨2, ![1, 512]⟩
abbrev S1x2176 : Shape := ⟨2, ![1, 2176]⟩
abbrev S1x64x512 : Shape := ⟨3, ![1, 64, 512]⟩
abbrev S1x8x64 : Shape := ⟨3, ![1, 8, 64]⟩
abbrev S2048 : Shape := ⟨1, ![2048]⟩
abbrev S16384x256 : Shape := ⟨2, ![16384, 256]⟩
abbrev S8x2048x4x64 : Shape := ⟨4, ![8, 2048, 4, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x4x32 : Shape := ⟨4, ![8, 2048, 4, 32]⟩
abbrev S16384x512 : Shape := ⟨2, ![16384, 512]⟩
abbrev S8x2048x4x128 : Shape := ⟨4, ![8, 2048, 4, 128]⟩
abbrev S8x4x64x128 : Shape := ⟨4, ![8, 4, 64, 128]⟩
abbrev S8x32x64x4x64 : Shape := ⟨5, ![8, 32, 64, 4, 64]⟩
abbrev S32x8x64x4x64 : Shape := ⟨5, ![32, 8, 64, 4, 64]⟩
abbrev S8x32x64x4x128 : Shape := ⟨5, ![8, 32, 64, 4, 128]⟩
abbrev S32x8x64x4x128 : Shape := ⟨5, ![32, 8, 64, 4, 128]⟩
abbrev S1x8x64x4x64 : Shape := ⟨5, ![1, 8, 64, 4, 64]⟩
abbrev S8x64x4x64 : Shape := ⟨4, ![8, 64, 4, 64]⟩
abbrev S1x8x64x4x128 : Shape := ⟨5, ![1, 8, 64, 4, 128]⟩
abbrev S8x64x4x128 : Shape := ⟨4, ![8, 64, 4, 128]⟩
abbrev S4 : Shape := ⟨1, ![4]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S64x4 : Shape := ⟨2, ![64, 4]⟩
abbrev S1x4x1x1 : Shape := ⟨4, ![1, 4, 1, 1]⟩
abbrev S8x4x64x64 : Shape := ⟨4, ![8, 4, 64, 64]⟩
abbrev S1x4x64x64 : Shape := ⟨4, ![1, 4, 64, 64]⟩
abbrev S8x4x128x64 : Shape := ⟨4, ![8, 4, 128, 64]⟩
abbrev S1x64x4x1 : Shape := ⟨4, ![1, 64, 4, 1]⟩
abbrev S8x2048x4 : Shape := ⟨3, ![8, 2048, 4]⟩
abbrev S8x2048x4x1 : Shape := ⟨4, ![8, 2048, 4, 1]⟩
abbrev S8x2048x512 : Shape := ⟨3, ![8, 2048, 512]⟩
abbrev S512 : Shape := ⟨1, ![512]⟩
abbrev S1x1x512 : Shape := ⟨3, ![1, 1, 512]⟩
abbrev S8x2048x1024 : Shape := ⟨3, ![8, 2048, 1024]⟩

abbrev nBuf : Space → Nat
  | .hbm => 246
  | .vmem => 0
  | .smem => 0
  | _ => 0

abbrev hbmTy0_0 (i : Nat) : BufTy := match i % 128 with
  | 0 => ⟨S16384x3712, .f32⟩
  | 1 => ⟨S1x512, .f32⟩
  | 2 => ⟨S1x2176, .f32⟩
  | 3 => ⟨S1x64x512, .f32⟩
  | 4 => ⟨S1x512, .f32⟩
  | 5 => ⟨S1x64x512, .f32⟩
  | 6 => ⟨S1x512, .f32⟩
  | 7 => ⟨S1x512, .f32⟩
  | 8 => ⟨S1x512, .f32⟩
  | 9 => ⟨S1x8x64, .f32⟩
  | 10 => ⟨S1x512, .f32⟩
  | 11 => ⟨S1x512, .f32⟩
  | 12 => ⟨S2048, .i32⟩
  | 13 => ⟨S16384x256, .f32⟩
  | 14 => ⟨S8x2048x4x64, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S32, .f32⟩
  | 24 => ⟨S2048, .f32⟩
  | 25 => ⟨S2048x1, .f32⟩
  | 26 => ⟨S1x32, .f32⟩
  | 27 => ⟨S2048x32, .f32⟩
  | 28 => ⟨S2048x32, .f32⟩
  | 29 => ⟨S2048x32, .f32⟩
  | 30 => ⟨S2048x32, .f32⟩
  | 31 => ⟨S1x2048x1x32, .f32⟩
  | 32 => ⟨S2048x32, .f32⟩
  | 33 => ⟨S1x2048x1x32, .f32⟩
  | 34 => ⟨S8x2048x4x32, .f32⟩
  | 35 => ⟨S8x2048x4x32, .f32⟩
  | 36 => ⟨S8x2048x4x32, .f32⟩
  | 37 => ⟨S8x2048x4x32, .f32⟩
  | 38 => ⟨S8x2048x4x32, .f32⟩
  | 39 => ⟨S8x2048x4x32, .f32⟩
  | 40 => ⟨S8x2048x4x32, .f32⟩
  | 41 => ⟨S8x2048x4x32, .f32⟩
  | 42 => ⟨S8x2048x4x32, .f32⟩
  | 43 => ⟨S8x2048x4x32, .f32⟩
  | 44 => ⟨S8x2048x4x32, .f32⟩
  | 45 => ⟨S8x2048x4x32, .f32⟩
  | 46 => ⟨S8x2048x4x64, .f32⟩
  | 47 => ⟨S16384x256, .f32⟩
  | 48 => ⟨S8x2048x4x64, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S32, .f32⟩
  | 58 => ⟨S2048, .f32⟩
  | 59 => ⟨S2048x1, .f32⟩
  | 60 => ⟨S1x32, .f32⟩
  | 61 => ⟨S2048x32, .f32⟩
  | 62 => ⟨S2048x32, .f32⟩
  | 63 => ⟨S2048x32, .f32⟩
  | 64 => ⟨S2048x32, .f32⟩
  | 65 => ⟨S1x2048x1x32, .f32⟩
  | 66 => ⟨S2048x32, .f32⟩
  | 67 => ⟨S1x2048x1x32, .f32⟩
  | 68 => ⟨S8x2048x4x32, .f32⟩
  | 69 => ⟨S8x2048x4x32, .f32⟩
  | 70 => ⟨S8x2048x4x32, .f32⟩
  | 71 => ⟨S8x2048x4x32, .f32⟩
  | 72 => ⟨S8x2048x4x32, .f32⟩
  | 73 => ⟨S8x2048x4x32, .f32⟩
  | 74 => ⟨S8x2048x4x32, .f32⟩
  | 75 => ⟨S8x2048x4x32, .f32⟩
  | 76 => ⟨S8x2048x4x32, .f32⟩
  | 77 => ⟨S8x2048x4x32, .f32⟩
  | 78 => ⟨S8x2048x4x32, .f32⟩
  | 79 => ⟨S8x2048x4x32, .f32⟩
  | 80 => ⟨S8x2048x4x64, .f32⟩
  | 81 => ⟨S_, .f32⟩
  | 82 => ⟨S8x2048x4x64, .f32⟩
  | 83 => ⟨S8x2048x4x64, .f32⟩
  | 84 => ⟨S16384x512, .f32⟩
  | 85 => ⟨S8x2048x4x128, .f32⟩
  | 86 => ⟨S_, .f32⟩
  | 87 => ⟨S8x4x64x128, .f32⟩
  | 88 => ⟨S8x32x64x4x64, .f32⟩
  | 89 => ⟨S32x8x64x4x64, .f32⟩
  | 90 => ⟨S8x32x64x4x64, .f32⟩
  | 91 => ⟨S32x8x64x4x64, .f32⟩
  | 92 => ⟨S8x32x64x4x128, .f32⟩
  | 93 => ⟨S32x8x64x4x128, .f32⟩
  | 94 => ⟨S_, .f32⟩
  | 95 => ⟨S32x8x64x4x128, .f32⟩
  | 96 => ⟨S_, .i32⟩
  | 97 => ⟨S32x8x64x4x64, .f32⟩
  | 98 => ⟨S32x8x64x4x64, .f32⟩
  | 99 => ⟨S32x8x64x4x128, .f32⟩
  | 100 => ⟨S_, .i32⟩
  | 101 => ⟨S8x4x64x128, .f32⟩
  | 102 => ⟨S32x8x64x4x128, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S1x8x64x4x64, .f32⟩
  | 110 => ⟨S8x64x4x64, .f32⟩
  | 111 => ⟨S_, .i32⟩
  | 112 => ⟨S_, .i32⟩
  | 113 => ⟨S_, .i32⟩
  | 114 => ⟨S_, .i32⟩
  | 115 => ⟨S1x8x64x4x64, .f32⟩
  | 116 => ⟨S8x64x4x64, .f32⟩
  | 117 => ⟨S_, .i32⟩
  | 118 => ⟨S_, .i32⟩
  | 119 => ⟨S_, .i32⟩
  | 120 => ⟨S_, .i32⟩
  | 121 => ⟨S1x8x64x4x128, .f32⟩
  | 122 => ⟨S8x64x4x128, .f32⟩
  | 123 => ⟨S4, .f32⟩
  | 124 => ⟨S_, .f32⟩
  | 125 => ⟨S4, .f32⟩
  | 126 => ⟨S4, .f32⟩
  | 127 => ⟨S_, .f32⟩
  | _ => ⟨S16384x3712, .f32⟩

abbrev hbmTy0_1 (i : Nat) : BufTy := match i % 128 with
  | 0 => ⟨S4, .f32⟩
  | 1 => ⟨S4, .f32⟩
  | 2 => ⟨S4, .f32⟩
  | 3 => ⟨S_, .f32⟩
  | 4 => ⟨S4, .f32⟩
  | 5 => ⟨S4, .f32⟩
  | 6 => ⟨S4, .f32⟩
  | 7 => ⟨S64, .f32⟩
  | 8 => ⟨S4x1x1, .f32⟩
  | 9 => ⟨S64x1, .f32⟩
  | 10 => ⟨S1x64, .f32⟩
  | 11 => ⟨S64x64, .f32⟩
  | 12 => ⟨S64x64, .f32⟩
  | 13 => ⟨S64x64, .f32⟩
  | 14 => ⟨S64x64, .f32⟩
  | 15 => ⟨S1x64x64, .f32⟩
  | 16 => ⟨S4x64x64, .f32⟩
  | 17 => ⟨S4x64x64, .f32⟩
  | 18 => ⟨S4x64x64, .f32⟩
  | 19 => ⟨S4x64x64, .f32⟩
  | 20 => ⟨S4x1, .f32⟩
  | 21 => ⟨S1x64, .f32⟩
  | 22 => ⟨S_, .f32⟩
  | 23 => ⟨S1x64, .f32⟩
  | 24 => ⟨S1x64, .f32⟩
  | 25 => ⟨S4x64, .f32⟩
  | 26 => ⟨S4x64, .f32⟩
  | 27 => ⟨S4x64, .f32⟩
  | 28 => ⟨S4x64, .f32⟩
  | 29 => ⟨S64x4, .f32⟩
  | 30 => ⟨S4x1, .f32⟩
  | 31 => ⟨S1x64, .f32⟩
  | 32 => ⟨S_, .f32⟩
  | 33 => ⟨S1x64, .f32⟩
  | 34 => ⟨S1x64, .f32⟩
  | 35 => ⟨S4x64, .f32⟩
  | 36 => ⟨S4x64, .f32⟩
  | 37 => ⟨S4x64, .f32⟩
  | 38 => ⟨S4x64, .f32⟩
  | 39 => ⟨S64x4, .f32⟩
  | 40 => ⟨S_, .f32⟩
  | 41 => ⟨S4, .f32⟩
  | 42 => ⟨S4, .f32⟩
  | 43 => ⟨S4, .f32⟩
  | 44 => ⟨S1x4x1x1, .f32⟩
  | 45 => ⟨S8x4x64x64, .f32⟩
  | 46 => ⟨S1x4x64x64, .f32⟩
  | 47 => ⟨S8x4x64x64, .f32⟩
  | 48 => ⟨S8x4x64x64, .f32⟩
  | 49 => ⟨S8x4x128x64, .f32⟩
  | 50 => ⟨S8x64x4x128, .f32⟩
  | 51 => ⟨S1x64x4x1, .f32⟩
  | 52 => ⟨S8x64x4x64, .f32⟩
  | 53 => ⟨S8x64x4x64, .f32⟩
  | 54 => ⟨S8x4x128x64, .f32⟩
  | 55 => ⟨S8x64x4x128, .f32⟩
  | 56 => ⟨S1x64x4x1, .f32⟩
  | 57 => ⟨S8x64x4x64, .f32⟩
  | 58 => ⟨S8x64x4x64, .f32⟩
  | 59 => ⟨S8x4x64x128, .f32⟩
  | 60 => ⟨S8x4x64x128, .f32⟩
  | 61 => ⟨S8x4x64x128, .f32⟩
  | 62 => ⟨S8x4x64x128, .f32⟩
  | 63 => ⟨S8x64x4x128, .f32⟩
  | 64 => ⟨S1x8x64x4x128, .f32⟩
  | 65 => ⟨S_, .i32⟩
  | 66 => ⟨S_, .i32⟩
  | 67 => ⟨S_, .i32⟩
  | 68 => ⟨S_, .i32⟩
  | 69 => ⟨S32x8x64x4x128, .f32⟩
  | 70 => ⟨S_, .i32⟩
  | 71 => ⟨S_, .i32⟩
  | 72 => ⟨S8x32x64x4x128, .f32⟩
  | 73 => ⟨S8x2048x4x128, .f32⟩
  | 74 => ⟨S_, .f32⟩
  | 75 => ⟨S8x2048x4, .f32⟩
  | 76 => ⟨S8x2048x4x1, .f32⟩
  | 77 => ⟨S_, .f32⟩
  | 78 => ⟨S8x2048x4x1, .f32⟩
  | 79 => ⟨S8x2048x4x1, .f32⟩
  | 80 => ⟨S8x2048x4x128, .f32⟩
  | 81 => ⟨S8x2048x4x128, .f32⟩
  | 82 => ⟨S8x2048x4x128, .f32⟩
  | 83 => ⟨S_, .f32⟩
  | 84 => ⟨S8x2048x4, .f32⟩
  | 85 => ⟨S8x2048x4x1, .f32⟩
  | 86 => ⟨S_, .f32⟩
  | 87 => ⟨S8x2048x4x1, .f32⟩
  | 88 => ⟨S8x2048x4x1, .f32⟩
  | 89 => ⟨S8x2048x4x128, .f32⟩
  | 90 => ⟨S8x2048x4x128, .f32⟩
  | 91 => ⟨S_, .f32⟩
  | 92 => ⟨S8x2048x4x1, .f32⟩
  | 93 => ⟨S8x2048x4x1, .f32⟩
  | 94 => ⟨S8x2048x4x1, .f32⟩
  | 95 => ⟨S8x2048x4x128, .f32⟩
  | 96 => ⟨S8x2048x4x128, .f32⟩
  | 97 => ⟨S8x2048x512, .f32⟩
  | 98 => ⟨S16384x512, .f32⟩
  | 99 => ⟨S8x2048x512, .f32⟩
  | 100 => ⟨S8x2048x512, .f32⟩
  | 101 => ⟨S8x2048x512, .f32⟩
  | 102 => ⟨S_, .f32⟩
  | 103 => ⟨S8x2048x512, .f32⟩
  | 104 => ⟨S8x2048x512, .f32⟩
  | 105 => ⟨S_, .f32⟩
  | 106 => ⟨S8x2048x512, .f32⟩
  | 107 => ⟨S8x2048x512, .f32⟩
  | 108 => ⟨S8x2048x512, .f32⟩
  | 109 => ⟨S512, .f32⟩
  | 110 => ⟨S1x1x512, .f32⟩
  | 111 => ⟨S8x2048x512, .f32⟩
  | 112 => ⟨S8x2048x512, .f32⟩
  | 113 => ⟨S8x2048x512, .f32⟩
  | 114 => ⟨S_, .f32⟩
  | 115 => ⟨S8x2048x512, .f32⟩
  | 116 => ⟨S8x2048x1024, .f32⟩
  | 117 => ⟨S8x2048x1024, .bf16⟩
  | _ => ⟨S16384x3712, .f32⟩

abbrev hbmTy (i : Nat) : BufTy := match i / 128 with
  | 0 => hbmTy0_0 i
  | 1 => hbmTy0_1 i
  | _ => ⟨S16384x3712, .f32⟩

abbrev bufTy : (tb : Table) → Fin (tcTables nBuf tb) → BufTy
  | .hbm, ⟨i, _⟩ => hbmTy i
  | _, _ => ⟨S16384x3712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_1 : Ref sig .tc := ⟨.hbm, 51, rfl⟩
abbrev main_v37 : Ref sig .tc := ⟨.hbm, 52, rfl⟩
abbrev main_v38 : Ref sig .tc := ⟨.hbm, 53, rfl⟩
abbrev main_cst_2 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_3 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_4 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_5 : Ref sig .tc := ⟨.hbm, 94, rfl⟩
abbrev main_v76 : Ref sig .tc := ⟨.hbm, 95, rfl⟩
abbrev main_c : Ref sig .tc := ⟨.hbm, 96, rfl⟩
abbrev main_v77_0 : Ref sig .tc := ⟨.hbm, 97, rfl⟩
abbrev main_v77_1 : Ref sig .tc := ⟨.hbm, 98, rfl⟩
abbrev main_v77_2 : Ref sig .tc := ⟨.hbm, 99, rfl⟩
abbrev main_v77_3 : Ref sig .tc := ⟨.hbm, 100, rfl⟩
abbrev main_v77_4 : Ref sig .tc := ⟨.hbm, 101, rfl⟩
abbrev main_v77_5 : Ref sig .tc := ⟨.hbm, 102, rfl⟩
abbrev main_while0c_c_17 : Ref sig .tc := ⟨.hbm, 103, rfl⟩
abbrev main_while0c_v110 : Ref sig .tc := ⟨.hbm, 104, rfl⟩
abbrev main_while0b_call0_c : Ref sig .tc := ⟨.hbm, 105, rfl⟩
abbrev main_while0b_call0_c_0 : Ref sig .tc := ⟨.hbm, 106, rfl⟩
abbrev main_while0b_call0_c_1 : Ref sig .tc := ⟨.hbm, 107, rfl⟩
abbrev main_while0b_call0_c_2 : Ref sig .tc := ⟨.hbm, 108, rfl⟩
abbrev main_while0b_call0_v0 : Ref sig .tc := ⟨.hbm, 109, rfl⟩
abbrev main_while0b_v110 : Ref sig .tc := ⟨.hbm, 110, rfl⟩
abbrev main_while0b_call1_c : Ref sig .tc := ⟨.hbm, 111, rfl⟩
abbrev main_while0b_call1_c_0 : Ref sig .tc := ⟨.hbm, 112, rfl⟩
abbrev main_while0b_call1_c_1 : Ref sig .tc := ⟨.hbm, 113, rfl⟩
abbrev main_while0b_call1_c_2 : Ref sig .tc := ⟨.hbm, 114, rfl⟩
abbrev main_while0b_call1_v0 : Ref sig .tc := ⟨.hbm, 115, rfl⟩
abbrev main_while0b_v111 : Ref sig .tc := ⟨.hbm, 116, rfl⟩
abbrev main_while0b_call2_c : Ref sig .tc := ⟨.hbm, 117, rfl⟩
abbrev main_while0b_call2_c_0 : Ref sig .tc := ⟨.hbm, 118, rfl⟩
abbrev main_while0b_call2_c_1 : Ref sig .tc := ⟨.hbm, 119, rfl⟩
abbrev main_while0b_call2_c_2 : Ref sig .tc := ⟨.hbm, 120, rfl⟩
abbrev main_while0b_call2_v0 : Ref sig .tc := ⟨.hbm, 121, rfl⟩
abbrev main_while0b_v112 : Ref sig .tc := ⟨.hbm, 122, rfl⟩
abbrev main_while0b_v113 : Ref sig .tc := ⟨.hbm, 123, rfl⟩
abbrev main_while0b_cst_17 : Ref sig .tc := ⟨.hbm, 124, rfl⟩
abbrev main_while0b_v114 : Ref sig .tc := ⟨.hbm, 125, rfl⟩
abbrev main_while0b_v115 : Ref sig .tc := ⟨.hbm, 126, rfl⟩
abbrev main_while0b_cst_18 : Ref sig .tc := ⟨.hbm, 127, rfl⟩
abbrev main_while0b_v116 : Ref sig .tc := ⟨.hbm, 128, rfl⟩
abbrev main_while0b_v117 : Ref sig .tc := ⟨.hbm, 129, rfl⟩
abbrev main_while0b_v118 : Ref sig .tc := ⟨.hbm, 130, rfl⟩
abbrev main_while0b_cst_19 : Ref sig .tc := ⟨.hbm, 131, rfl⟩
abbrev main_while0b_v119 : Ref sig .tc := ⟨.hbm, 132, rfl⟩
abbrev main_while0b_v120 : Ref sig .tc := ⟨.hbm, 133, rfl⟩
abbrev main_while0b_v121 : Ref sig .tc := ⟨.hbm, 134, rfl⟩
abbrev main_while0b_v122 : Ref sig .tc := ⟨.hbm, 135, rfl⟩
abbrev main_while0b_v123 : Ref sig .tc := ⟨.hbm, 136, rfl⟩
abbrev main_while0b_v124 : Ref sig .tc := ⟨.hbm, 137, rfl⟩
abbrev main_while0b_v125 : Ref sig .tc := ⟨.hbm, 138, rfl⟩
abbrev main_while0b_v126 : Ref sig .tc := ⟨.hbm, 139, rfl⟩
abbrev main_while0b_v127 : Ref sig .tc := ⟨.hbm, 140, rfl⟩
abbrev main_while0b_v128 : Ref sig .tc := ⟨.hbm, 141, rfl⟩
abbrev main_while0b_v129 : Ref sig .tc := ⟨.hbm, 142, rfl⟩
abbrev main_while0b_v130 : Ref sig .tc := ⟨.hbm, 143, rfl⟩
abbrev main_while0b_v131 : Ref sig .tc := ⟨.hbm, 144, rfl⟩
abbrev main_while0b_v132 : Ref sig .tc := ⟨.hbm, 145, rfl⟩
abbrev main_while0b_v133 : Ref sig .tc := ⟨.hbm, 146, rfl⟩
abbrev main_while0b_v134 : Ref sig .tc := ⟨.hbm, 147, rfl⟩
abbrev main_while0b_v135 : Ref sig .tc := ⟨.hbm, 148, rfl⟩
abbrev main_while0b_v136 : Ref sig .tc := ⟨.hbm, 149, rfl⟩
abbrev main_while0b_cst_20 : Ref sig .tc := ⟨.hbm, 150, rfl⟩
abbrev main_while0b_v137 : Ref sig .tc := ⟨.hbm, 151, rfl⟩
abbrev main_while0b_v138 : Ref sig .tc := ⟨.hbm, 152, rfl⟩
abbrev main_while0b_v139 : Ref sig .tc := ⟨.hbm, 153, rfl⟩
abbrev main_while0b_v140 : Ref sig .tc := ⟨.hbm, 154, rfl⟩
abbrev main_while0b_v141 : Ref sig .tc := ⟨.hbm, 155, rfl⟩
abbrev main_while0b_v142 : Ref sig .tc := ⟨.hbm, 156, rfl⟩
abbrev main_while0b_v143 : Ref sig .tc := ⟨.hbm, 157, rfl⟩
abbrev main_while0b_v144 : Ref sig .tc := ⟨.hbm, 158, rfl⟩
abbrev main_while0b_v145 : Ref sig .tc := ⟨.hbm, 159, rfl⟩
abbrev main_while0b_cst_21 : Ref sig .tc := ⟨.hbm, 160, rfl⟩
abbrev main_while0b_v146 : Ref sig .tc := ⟨.hbm, 161, rfl⟩
abbrev main_while0b_v147 : Ref sig .tc := ⟨.hbm, 162, rfl⟩
abbrev main_while0b_v148 : Ref sig .tc := ⟨.hbm, 163, rfl⟩
abbrev main_while0b_v149 : Ref sig .tc := ⟨.hbm, 164, rfl⟩
abbrev main_while0b_v150 : Ref sig .tc := ⟨.hbm, 165, rfl⟩
abbrev main_while0b_v151 : Ref sig .tc := ⟨.hbm, 166, rfl⟩
abbrev main_while0b_v152 : Ref sig .tc := ⟨.hbm, 167, rfl⟩
abbrev main_while0b_cst_22 : Ref sig .tc := ⟨.hbm, 168, rfl⟩
abbrev main_while0b_v153 : Ref sig .tc := ⟨.hbm, 169, rfl⟩
abbrev main_while0b_v154 : Ref sig .tc := ⟨.hbm, 170, rfl⟩
abbrev main_while0b_v155 : Ref sig .tc := ⟨.hbm, 171, rfl⟩
abbrev main_while0b_v156 : Ref sig .tc := ⟨.hbm, 172, rfl⟩
abbrev main_while0b_v157 : Ref sig .tc := ⟨.hbm, 173, rfl⟩
abbrev main_while0b_v158 : Ref sig .tc := ⟨.hbm, 174, rfl⟩
abbrev main_while0b_v159 : Ref sig .tc := ⟨.hbm, 175, rfl⟩
abbrev main_while0b_v160 : Ref sig .tc := ⟨.hbm, 176, rfl⟩
abbrev main_while0b_v161 : Ref sig .tc := ⟨.hbm, 177, rfl⟩
abbrev main_while0b_v162 : Ref sig .tc := ⟨.hbm, 178, rfl⟩
abbrev main_while0b_v163 : Ref sig .tc := ⟨.hbm, 179, rfl⟩
abbrev main_while0b_v164 : Ref sig .tc := ⟨.hbm, 180, rfl⟩
abbrev main_while0b_v165 : Ref sig .tc := ⟨.hbm, 181, rfl⟩
abbrev main_while0b_v166 : Ref sig .tc := ⟨.hbm, 182, rfl⟩
abbrev main_while0b_v167 : Ref sig .tc := ⟨.hbm, 183, rfl⟩
abbrev main_while0b_v168 : Ref sig .tc := ⟨.hbm, 184, rfl⟩
abbrev main_while0b_v169 : Ref sig .tc := ⟨.hbm, 185, rfl⟩
abbrev main_while0b_v170 : Ref sig .tc := ⟨.hbm, 186, rfl⟩
abbrev main_while0b_v171 : Ref sig .tc := ⟨.hbm, 187, rfl⟩
abbrev main_while0b_v172 : Ref sig .tc := ⟨.hbm, 188, rfl⟩
abbrev main_while0b_v173 : Ref sig .tc := ⟨.hbm, 189, rfl⟩
abbrev main_while0b_v174 : Ref sig .tc := ⟨.hbm, 190, rfl⟩
abbrev main_while0b_v175 : Ref sig .tc := ⟨.hbm, 191, rfl⟩
abbrev main_while0b_call3_v0 : Ref sig .tc := ⟨.hbm, 192, rfl⟩
abbrev main_while0b_call3_c : Ref sig .tc := ⟨.hbm, 193, rfl⟩
abbrev main_while0b_call3_c_0 : Ref sig .tc := ⟨.hbm, 194, rfl⟩
abbrev main_while0b_call3_c_1 : Ref sig .tc := ⟨.hbm, 195, rfl⟩
abbrev main_while0b_call3_c_2 : Ref sig .tc := ⟨.hbm, 196, rfl⟩
abbrev main_while0b_v176 : Ref sig .tc := ⟨.hbm, 197, rfl⟩
abbrev main_while0b_c_23 : Ref sig .tc := ⟨.hbm, 198, rfl⟩
abbrev main_while0b_v177 : Ref sig .tc := ⟨.hbm, 199, rfl⟩
abbrev main_v78 : Ref sig .tc := ⟨.hbm, 200, rfl⟩
abbrev main_v79 : Ref sig .tc := ⟨.hbm, 201, rfl⟩
abbrev main_cst_6 : Ref sig .tc := ⟨.hbm, 202, rfl⟩
abbrev main_v80 : Ref sig .tc := ⟨.hbm, 203, rfl⟩
abbrev main_v81 : Ref sig .tc := ⟨.hbm, 204, rfl⟩
abbrev main_cst_7 : Ref sig .tc := ⟨.hbm, 205, rfl⟩
abbrev main_v82 : Ref sig .tc := ⟨.hbm, 206, rfl⟩
abbrev main_v83 : Ref sig .tc := ⟨.hbm, 207, rfl⟩
abbrev main_v84 : Ref sig .tc := ⟨.hbm, 208, rfl⟩
abbrev main_v85 : Ref sig .tc := ⟨.hbm, 209, rfl⟩
abbrev main_v86 : Ref sig .tc := ⟨.hbm, 210, rfl⟩
abbrev main_cst_8 : Ref sig .tc := ⟨.hbm, 211, rfl⟩
abbrev main_v87 : Ref sig .tc := ⟨.hbm, 212, rfl⟩
abbrev main_v88 : Ref sig .tc := ⟨.hbm, 213, rfl⟩
abbrev main_cst_9 : Ref sig .tc := ⟨.hbm, 214, rfl⟩
abbrev main_v89 : Ref sig .tc := ⟨.hbm, 215, rfl⟩
abbrev main_v90 : Ref sig .tc := ⟨.hbm, 216, rfl⟩
abbrev main_v91 : Ref sig .tc := ⟨.hbm, 217, rfl⟩
abbrev main_v92 : Ref sig .tc := ⟨.hbm, 218, rfl⟩
abbrev main_cst_10 : Ref sig .tc := ⟨.hbm, 219, rfl⟩
abbrev main_v93 : Ref sig .tc := ⟨.hbm, 220, rfl⟩
abbrev main_v94 : Ref sig .tc := ⟨.hbm, 221, rfl⟩
abbrev main_v95 : Ref sig .tc := ⟨.hbm, 222, rfl⟩
abbrev main_v96 : Ref sig .tc := ⟨.hbm, 223, rfl⟩
abbrev main_v97 : Ref sig .tc := ⟨.hbm, 224, rfl⟩
abbrev main_v98 : Ref sig .tc := ⟨.hbm, 225, rfl⟩
abbrev main_v99 : Ref sig .tc := ⟨.hbm, 226, rfl⟩
abbrev main_v100 : Ref sig .tc := ⟨.hbm, 227, rfl⟩
abbrev main_call4_v0 : Ref sig .tc := ⟨.hbm, 228, rfl⟩
abbrev main_call4_v1 : Ref sig .tc := ⟨.hbm, 229, rfl⟩
abbrev main_call4_cst : Ref sig .tc := ⟨.hbm, 230, rfl⟩
abbrev main_call4_v2 : Ref sig .tc := ⟨.hbm, 231, rfl⟩
abbrev main_call4_v3 : Ref sig .tc := ⟨.hbm, 232, rfl⟩
abbrev main_call4_cst_0 : Ref sig .tc := ⟨.hbm, 233, rfl⟩
abbrev main_call4_v4 : Ref sig .tc := ⟨.hbm, 234, rfl⟩
abbrev main_call4_v5 : Ref sig .tc := ⟨.hbm, 235, rfl⟩
abbrev main_v101 : Ref sig .tc := ⟨.hbm, 236, rfl⟩
abbrev main_v102 : Ref sig .tc := ⟨.hbm, 237, rfl⟩
abbrev main_v103 : Ref sig .tc := ⟨.hbm, 238, rfl⟩
abbrev main_v104 : Ref sig .tc := ⟨.hbm, 239, rfl⟩
abbrev main_v105 : Ref sig .tc := ⟨.hbm, 240, rfl⟩
abbrev main_v106 : Ref sig .tc := ⟨.hbm, 241, rfl⟩
abbrev main_cst_11 : Ref sig .tc := ⟨.hbm, 242, rfl⟩
abbrev main_v107 : Ref sig .tc := ⟨.hbm, 243, rfl⟩
abbrev main_v108 : Ref sig .tc := ⟨.hbm, 244, rfl⟩
abbrev main_v109 : Ref sig .tc := ⟨.hbm, 245, rfl⟩

abbrev nD : Nat := 1
abbrev τ : Topo := Topo.v7x

variable {F : FTy → Type} [FloatOps F]

abbrev main_while0_count : Scf.Loop 32 := ⟨0#32, 32#32, 1#32⟩
-- ==== Proof.P.Ker.lean ====
module
public import proofs.«01_k».proof.Proof.Gen.MixersIdeal.Frame
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.MixersIdeal.Own
open Cert.MixersIdeal Cert.MixersIdeal.Gen

/-- One block four times, one under the other. -/
def four (v : FVec Ideal S64x256 .f32) : FVec Ideal S256x256 .f32 :=
  concatenate S256x256 0 [⟨S64x256, v⟩, ⟨S64x256, v⟩, ⟨S64x256, v⟩, ⟨S64x256, v⟩] concatenates_S64x256_S64x256_S64x256_S64x256_S256x256_d0
/-- The same for a block of values. -/
def fourV (v : FVec Ideal S64x512 .f32) : FVec Ideal S256x512 .f32 :=
  concatenate S256x512 0 [⟨S64x512, v⟩, ⟨S64x512, v⟩, ⟨S64x512, v⟩, ⟨S64x512, v⟩] concatenates_S64x512_S64x512_S64x512_S64x512_S256x512_d0
/-- A table of 64 rows stacked four times, at an entry. -/
theorem four_at (v : FVec Ideal S64x256 .f32) (r j : Fin 256) : four v (ix2 r j) = v (ix2 ⟨r.val % 64, by omega⟩ j) := by
  pointwise [four]
  split_ifs <;> exact congrArg (fun z => v (ix2 z j)) (Fin.ext (by simp only; omega))
/-- The same for a table of 512 columns. -/
theorem fourV_at (v : FVec Ideal S64x512 .f32) (r : Fin 256) (j : Fin 512) : fourV v (ix2 r j) = v (ix2 ⟨r.val % 64, by omega⟩ j) := by
  pointwise [fourV]
  split_ifs <;> exact congrArg (fun z => v (ix2 z j)) (Fin.ext (by simp only; omega))

/-- Four different blocks, one under the other. -/
def stackV (a b c d : FVec Ideal S64x512 .f32) : FVec Ideal S256x512 .f32 :=
  concatenate S256x512 0 [⟨S64x512, a⟩, ⟨S64x512, b⟩, ⟨S64x512, c⟩, ⟨S64x512, d⟩] concatenates_S64x512_S64x512_S64x512_S64x512_S256x512_d0
/-- Four arrays stacked, at a row of one of them. -/
theorem stackV_at (f : Fin 4 → FVec Ideal S64x512 .f32) (bi : Fin 4) (n : Fin 64) (j : Fin 512) : stackV (f 0) (f 1) (f 2) (f 3) (ix2 ⟨bi.val * 64 + n.val, by omega⟩ j) = f bi (ix2 n j) := by
  pointwise [stackV]
  fin_cases bi <;> simp only <;> split_ifs <;> first | omega | exact congrArg (fun z => f _ (ix2 z j)) (Fin.ext (by simp only; omega))

/-- A choice by the bit of a condition. -/
theorem sel_if (p : Prop) [Decidable p] (a b : EReal) : Scalar.select (if p then 1#1 else 0#1) a b = if p then a else b := by
  by_cases h : p
  · rw [if_pos h, if_pos h]; rfl
  · rw [if_neg h, if_neg h]; rfl
/-- The bit of the lower half of a head. -/
theorem half_at : ∀ j : Fin 256, IntOp.cmpi .slt (IntOp.andi (BitVec.ofNat 32 j.val) 63#32) 32#32 = if j.val % 64 < 32 then 1#1 else 0#1 := by decide +kernel
/-- A shift by six is a division by 64. -/
theorem shr6 : ∀ j : Fin 256, IntOp.shrsi .vector (BitVec.ofNat 32 j.val) 6#32 = BitVec.ofNat 32 (j.val / 64) := by decide +kernel
/-- A shift by seven is a division by 128. -/
theorem shr7 : ∀ j : Fin 512, IntOp.shrsi .vector (BitVec.ofNat 32 j.val) 7#32 = BitVec.ofNat 32 (j.val / 128) := by decide +kernel
/-- Comparing two head numbers. -/
theorem same4 : ∀ a b : Fin 4, IntOp.cmpi .eq (BitVec.ofNat 32 a.val) (BitVec.ofNat 32 b.val) = if a.val = b.val then 1#1 else 0#1 := by decide +kernel

/-- The kernel's rotary encoding of the four sequences' heads. -/
def ropeV (p : FVec Ideal S4x64x256 .f32) (cs sn : FVec Ideal S64x256 .f32) : FVec Ideal S256x256 .f32 :=
  addf (mulf (shapeCast S256x256 (shapeCast S4x64x256 p shapeCasts_S4x64x256_S4x64x256) shapeCasts_S4x64x256_S256x256) (four cs))
    (mulf (select (cmpi .slt (andi (iota .tc S256x256 32 [1] iota_S256x256_d1_w32) (broadcast S256x256 63#32)) (broadcast S256x256 32#32))
        (dynamicRotate 1 224#32 none (shapeCast S256x256 (shapeCast S4x64x256 p shapeCasts_S4x64x256_S4x64x256) shapeCasts_S4x64x256_S256x256) rotates_S256x256_d1)
        (dynamicRotate 1 32#32 none (shapeCast S256x256 (shapeCast S4x64x256 p shapeCasts_S4x64x256_S4x64x256) shapeCasts_S4x64x256_S256x256) rotates_S256x256_d1))
      (four sn))
/-- The rotary encoding at an entry. -/
theorem ropeV_at (p : FVec Ideal S4x64x256 .f32) (cs sn : FVec Ideal S64x256 .f32) (r j : Fin 256) : ropeV p cs sn (ix2 r j)
    = p (ix3 ⟨r.val / 64, by omega⟩ ⟨r.val % 64, by omega⟩ j) * cs (ix2 ⟨r.val % 64, by omega⟩ j)
      + (if j.val % 64 < 32 then p (ix3 ⟨r.val / 64, by omega⟩ ⟨r.val % 64, by omega⟩ ⟨(j.val + 256 - 224) % 256, by omega⟩) else p (ix3 ⟨r.val / 64, by omega⟩ ⟨r.val % 64, by omega⟩ ⟨(j.val + 256 - 32) % 256, by omega⟩)) * sn (ix2 ⟨r.val % 64, by omega⟩ j) := by
  pointwise [ropeV, four_at]
  rw [half_at, sel_if]

/-- Heads of keys against columns of heads: the indicator of the same head. -/
def maskQ : IVec S256x256 1 :=
  cmpi .eq (shrsi (iota .tc S256x256 32 [0] iota_S256x256_d0_w32) (broadcast S256x256 6#32)) (shrsi (iota .tc S256x256 32 [1] iota_S256x256_d1_w32) (broadcast S256x256 6#32))
/-- The same for columns of values. -/
def maskV : IVec S256x512 1 :=
  cmpi .eq (shrsi (iota .tc S256x512 32 [0] iota_S256x512_d0_w32) (broadcast S256x512 6#32)) (shrsi (iota .tc S256x512 32 [1] iota_S256x512_d1_w32) (broadcast S256x512 7#32))
/-- The mask over 256 columns marks the entries of one head. -/
theorem maskQ_at (i j : Fin 256) : maskQ (ix2 i j) = if i.val / 64 = j.val / 64 then 1#1 else 0#1 := by
  pointwise [maskQ]
  rw [shr6, shr6]
  exact same4 ⟨i.val / 64, by omega⟩ ⟨j.val / 64, by omega⟩
/-- The mask over 512 columns marks the entries of one head. -/
theorem maskV_at (i : Fin 256) (j : Fin 512) : maskV (ix2 i j) = if i.val / 64 = j.val / 128 then 1#1 else 0#1 := by
  pointwise [maskV]
  rw [shr6, shr7]
  exact same4 ⟨i.val / 64, by omega⟩ ⟨j.val / 128, by omega⟩

/-- A chunk's result in one sequence: queries `q`, keys `k`, values `v`, decay tables, the state's blocks. -/
def outV (q k d0 d1 : FVec Ideal S64x256 .f32) (v : FVec Ideal S64x512 .f32) (s : FVec Ideal S256x512 .f32) : FVec Ideal S64x512 .f32 :=
  addf
    (matmul dot_S64x256_S256x512_S64x512_1_0_0_1_n_n none
      (truncf .bf16 (mulf (matmul dot_S64x256_S256x256_S64x256_1_1_0_0_n_n none (truncf .bf16 q bitsLt_bf16_f32)
        (truncf .bf16 (select maskQ (four k) (broadcast S256x256 (Scalar.ofBits .f32 0x00000000#32))) bitsLt_bf16_f32) (constant S64x256 .f32 0x00000000#32)) d0) bitsLt_bf16_f32)
      (truncf .bf16 (select maskV (fourV v) (broadcast S256x512 (Scalar.ofBits .f32 0x00000000#32))) bitsLt_bf16_f32) (constant S64x512 .f32 0x00000000#32))
    (matmul dot_S64x256_S256x512_S64x512_1_0_0_1_n_n none (truncf .bf16 (mulf q d1) bitsLt_bf16_f32) (truncf .bf16 s bitsLt_bf16_f32) (constant S64x512 .f32 0x00000000#32))
/-- One sequence's retention at an entry. -/
theorem outV_at (q k d0 d1 : FVec Ideal S64x256 .f32) (v : FVec Ideal S64x512 .f32) (s : FVec Ideal S256x512 .f32) (n : Fin 64) (l : Fin 512) :
    outV q k d0 d1 v s (ix2 n l)
      = ∑ x : Fin 256, (if x.val / 64 = l.val / 128 then (∑ y : Fin 256, (if x.val / 64 = y.val / 64 then q (ix2 n y) * k (ix2 ⟨x.val % 64, by omega⟩ y) else 0)) * d0 (ix2 n x) * v (ix2 ⟨x.val % 64, by omega⟩ l) else 0)
        + ∑ x : Fin 256, (q (ix2 n x) * d1 (ix2 n x)) * s (ix2 x l) := by
  pointwise [outV, four_at, fourV_at, maskQ_at, maskV_at]
  simp only [sel_if]
/-- The state's blocks after a chunk. -/
def newV (k d2 : FVec Ideal S64x256 .f32) (v : FVec Ideal S64x512 .f32) (s cd : FVec Ideal S256x512 .f32) : FVec Ideal S256x512 .f32 :=
  addf (mulf s cd)
    (select maskV (matmul dot_S64x256_S64x512_S256x512_0_0_1_1_n_n none (truncf .bf16 (mulf k d2) bitsLt_bf16_f32) (truncf .bf16 v bitsLt_bf16_f32) (constant S256x512 .f32 0x00000000#32))
      (broadcast S256x512 (Scalar.ofBits .f32 0x00000000#32)))
/-- One sequence's new state at an entry. -/
theorem newV_at (k d2 : FVec Ideal S64x256 .f32) (v : FVec Ideal S64x512 .f32) (s cd : FVec Ideal S256x512 .f32) (j : Fin 256) (l : Fin 512) :
    newV k d2 v s cd (ix2 j l) = s (ix2 j l) * cd (ix2 j l) + if j.val / 64 = l.val / 128 then ∑ x : Fin 64, (k (ix2 x j) * d2 (ix2 x j)) * v (ix2 x l) else 0 := by
  pointwise [newV, maskV_at]
  rw [sel_if]
/-- The norm and gate of one entry of a head's row `o`. -/
def normed (o : Fin 128 → EReal) (g G : EReal) (e : Fin 128) : EReal :=
  g * Ideal.div 1 (1 + Ideal.exp (-g)) * ((o e - Ideal.div (∑ x, o x) (Ideal.ofBits .f32 1124073472#32))
    * Ideal.rsqrt (Ideal.div (∑ x, (o x - Ideal.div (∑ x, o x) (Ideal.ofBits .f32 1124073472#32)) * (o x - Ideal.div (∑ x, o x) (Ideal.ofBits .f32 1124073472#32))) (Ideal.ofBits .f32 1124073472#32) + Ideal.ofBits .f32 925353388#32) * G)
/-- A head's norm and gate, from its 128 columns starting at `off`. -/
def headV (W : FVec Ideal S256x512 .f32) (off : ℕ) (h1 : S256x512.Slices ![0, off] S256x128) (h2 : S1x512.Slices ![0, off] S1x128) (g : FVec Ideal S4x64x128 .f32) (G : FVec Ideal S1x512 .f32) : FVec Ideal S4x64x128 .bf16 :=
  let x := extractStridedSlice S256x128 ![0, off] W h1
  let c128 := broadcast S256x1 (Scalar.ofBits (F := Ideal) .f32 0x43000000#32)
  let mu := divf (shapeCast S256x1 (multiReduction .add [1] S256 x 0x00000000#32 reduces_S256x128_S256 (.inl rfl) rfl) shapeCasts_S256_S256x1) c128
  let d := subf x (broadcastTo S256x128 mu broadcasts_S256x1_S256x128)
  let var := divf (shapeCast S256x1 (multiReduction .add [1] S256 (mulf d d) 0x00000000#32 reduces_S256x128_S256 (.inl rfl) rfl) shapeCasts_S256_S256x1) c128
  let gg := shapeCast S256x128 (shapeCast S4x64x128 g shapeCasts_S4x64x128_S4x64x128) shapeCasts_S4x64x128_S256x128
  let one := broadcast S256x128 (Scalar.ofBits (F := Ideal) .f32 0x3F800000#32)
  truncf .bf16 (shapeCast S4x64x128
    (mulf (mulf gg (divf one (addf one (exp (subf (broadcast S256x128 (Scalar.ofBits (F := Ideal) .f32 0x00000000#32)) gg)))))
      (mulf (mulf d (broadcastTo S256x128 (rsqrt (addf var (broadcast S256x1 (Scalar.ofBits (F := Ideal) .f32 925353388#32)))) broadcasts_S256x1_S256x128))
        (broadcastTo S256x128 (extractStridedSlice S1x128 ![0, off] G h2) broadcasts_S1x128_S256x128))) shapeCasts_S256x128_S4x64x128) bitsLt_bf16_f32
/-- A head's norm, gain and gate at an entry. -/
theorem headV_at (W : FVec Ideal S256x512 .f32) (off : ℕ) (ho : off + 128 ≤ 512) (h1 h2) (g : FVec Ideal S4x64x128 .f32) (G : FVec Ideal S1x512 .f32) (b : Fin 4) (n : Fin 64) (e : Fin 128) :
    headV W off h1 h2 g G (ix3 b n e)
      = normed (fun e => W (ix2 ⟨b.val * 64 + n.val, by omega⟩ ⟨off + e.val, by omega⟩)) (g (ix3 b n e)) (G (ix2 0 ⟨off + e.val, by omega⟩)) e := by
  pointwise [headV, normed]
  rw [zero_sub]
/-- The four sequences' blocks of rows. -/
def partQ (X : FVec Ideal S256x256 .f32) : Fin 4 → FVec Ideal S64x256 .f32
  | 0 => extractStridedSlice S64x256 ![0, 0] X slices_S256x256_o0_0_S64x256
  | 1 => extractStridedSlice S64x256 ![64, 0] X slices_S256x256_o64_0_S64x256
  | 2 => extractStridedSlice S64x256 ![128, 0] X slices_S256x256_o128_0_S64x256
  | 3 => extractStridedSlice S64x256 ![192, 0] X slices_S256x256_o192_0_S64x256
/-- A sequence's part of the stacked rows, at an entry. -/
theorem partQ_at (X : FVec Ideal S256x256 .f32) (bi : Fin 4) (n : Fin 64) (j : Fin 256) : partQ X bi (ix2 n j) = X (ix2 ⟨bi.val * 64 + n.val, by omega⟩ j) := by
  fin_cases bi <;> pointwise [partQ]
/-- A sequence's part of the stacked rows of 512 columns. -/
def partV (X : FVec Ideal S256x512 .f32) : Fin 4 → FVec Ideal S64x512 .f32
  | 0 => extractStridedSlice S64x512 ![0, 0] X slices_S256x512_o0_0_S64x512
  | 1 => extractStridedSlice S64x512 ![64, 0] X slices_S256x512_o64_0_S64x512
  | 2 => extractStridedSlice S64x512 ![128, 0] X slices_S256x512_o128_0_S64x512
  | 3 => extractStridedSlice S64x512 ![192, 0] X slices_S256x512_o192_0_S64x512
/-- That part at an entry. -/
theorem partV_at (X : FVec Ideal S256x512 .f32) (bi : Fin 4) (n : Fin 64) (j : Fin 512) : partV X bi (ix2 n j) = X (ix2 ⟨bi.val * 64 + n.val, by omega⟩ j) := by
  fin_cases bi <;> pointwise [partV]
/-- The four sequences' results, one under the other. -/
def retV (q k : FVec Ideal S256x256 .f32) (v : FVec Ideal S256x512 .f32) (d0 d1 : FVec Ideal S64x256 .f32) (s : Fin 4 → FVec Ideal S256x512 .f32) : FVec Ideal S256x512 .f32 :=
  stackV (outV (partQ q 0) (partQ k 0) d0 d1 (partV v 0) (s 0)) (outV (partQ q 1) (partQ k 1) d0 d1 (partV v 1) (s 1))
    (outV (partQ q 2) (partQ k 2) d0 d1 (partV v 2) (s 2)) (outV (partQ q 3) (partQ k 3) d0 d1 (partV v 3) (s 3))
/-- A chunk's result at row `n` and column `l`, from the sequence's entries. -/
def outE (q k d0 d1 : Fin 64 → Fin 256 → EReal) (v : Fin 64 → Fin 512 → EReal) (s : Fin 256 → Fin 512 → EReal) (n : Fin 64) (l : Fin 512) : EReal :=
  ∑ x : Fin 256, (if x.val / 64 = l.val / 128 then (∑ y : Fin 256, (if x.val / 64 = y.val / 64 then q n y * k ⟨x.val % 64, by omega⟩ y else 0)) * d0 n x * v ⟨x.val % 64, by omega⟩ l else 0)
    + ∑ x : Fin 256, (q n x * d1 n x) * s x l
/-- The state's entry after a chunk. -/
def newE (k d2 : Fin 64 → Fin 256 → EReal) (v : Fin 64 → Fin 512 → EReal) (s cd : Fin 256 → Fin 512 → EReal) (j : Fin 256) (l : Fin 512) : EReal :=
  s j l * cd j l + if j.val / 64 = l.val / 128 then ∑ x : Fin 64, (k x j * d2 x j) * v x l else 0
/-- The stacked retention at a row of one sequence. -/
theorem retV_at (q k : FVec Ideal S256x256 .f32) (v : FVec Ideal S256x512 .f32) (d0 d1 : FVec Ideal S64x256 .f32) (s : Fin 4 → FVec Ideal S256x512 .f32) (bi : Fin 4) (n : Fin 64) (l : Fin 512) :
    retV q k v d0 d1 s (ix2 ⟨bi.val * 64 + n.val, by omega⟩ l)
      = outE (fun n j => q (ix2 ⟨bi.val * 64 + n.val, by omega⟩ j)) (fun n j => k (ix2 ⟨bi.val * 64 + n.val, by omega⟩ j)) (fun n j => d0 (ix2 n j)) (fun n j => d1 (ix2 n j))
          (fun n l => v (ix2 ⟨bi.val * 64 + n.val, by omega⟩ l)) (fun j l => s bi (ix2 j l)) n l := by
  refine (stackV_at (fun bi => outV (partQ q bi) (partQ k bi) d0 d1 (partV v bi) (s bi)) bi n l).trans ?_
  rw [outV_at]
  simp only [partQ_at, partV_at]
  rfl
/-- The new state of one sequence at an entry. -/
theorem newE_at (k : FVec Ideal S256x256 .f32) (d2 : FVec Ideal S64x256 .f32) (v : FVec Ideal S256x512 .f32) (s cd : FVec Ideal S256x512 .f32) (bi : Fin 4) (j : Fin 256) (l : Fin 512) :
    newV (partQ k bi) d2 (partV v bi) s cd (ix2 j l)
      = newE (fun n j => k (ix2 ⟨bi.val * 64 + n.val, by omega⟩ j)) (fun n j => d2 (ix2 n j)) (fun n l => v (ix2 ⟨bi.val * 64 + n.val, by omega⟩ l)) (fun j l => s (ix2 j l)) (fun j l => cd (ix2 j l)) j l := by
  rw [newV_at]
  simp only [partQ_at, partV_at]
  rfl
/-- The rotated block that starts at column `o`. -/
def rot (P : FVec Ideal S4x64x3712 .f32) (C S : FVec Ideal S64x256 .f32) (o : ℕ) (ho : o + 256 ≤ 3712) (bi : Fin 4) (n : Fin 64) (j : Fin 256) : EReal :=
  P (ix3 bi n ⟨o + j.val, by omega⟩) * C (ix2 n j)
    + (if j.val % 64 < 32 then P (ix3 bi n ⟨o + (j.val + 256 - 224) % 256, by omega⟩) else P (ix3 bi n ⟨o + (j.val + 256 - 32) % 256, by omega⟩)) * S (ix2 n j)
/-- The rotated columns over the projected block. -/
theorem rot_at (p : FVec Ideal S4x64x256 .f32) (C S : FVec Ideal S64x256 .f32) (P : FVec Ideal S4x64x3712 .f32) (o : ℕ) (ho : o + 256 ≤ 3712)
    (hp : ∀ bi n j, p (ix3 bi n j) = P (ix3 bi n ⟨o + j.val, by omega⟩)) (bi : Fin 4) (n : Fin 64) (j : Fin 256) :
    ropeV p C S (ix2 ⟨bi.val * 64 + n.val, by omega⟩ j) = rot P C S o ho bi n j := by
  have e1 : (⟨(bi.val * 64 + n.val) / 64, by omega⟩ : Fin 4) = bi := Fin.ext (by simp only; omega)
  have e2 : (⟨(bi.val * 64 + n.val) % 64, by omega⟩ : Fin 64) = n := Fin.ext (by simp only; omega)
  rw [ropeV_at]
  simp only [hp, e1, e2]
  rfl
/-- A sum over the columns of four heads of what is there in head `h` only. -/
theorem sum_head (h : Fin 4) (f : Fin 256 → EReal) : ∑ x : Fin 256, (if x.val / 64 = h.val then f x else 0) = ∑ x : Fin 64, f ⟨h.val * 64 + x.val, by omega⟩ := by
  rw [← (finProdFinEquiv (m := 4) (n := 64)).sum_comp (fun x : Fin 256 => if x.val / 64 = h.val then f x else 0), Fintype.sum_prod_type]
  rw [Finset.sum_eq_single h]
  · refine Finset.sum_congr rfl fun x _ => ?_
    have hx : (finProdFinEquiv (h, x)).val = h.val * 64 + x.val := by simp [finProdFinEquiv]; omega
    rw [if_pos (by rw [hx]; omega)]
    exact congrArg f (Fin.ext hx)
  · intro b _ hb
    refine Finset.sum_eq_zero fun x _ => if_neg ?_
    have hx : (finProdFinEquiv (b, x)).val = b.val * 64 + x.val := by simp [finProdFinEquiv]; omega
    rw [hx]
    intro h'
    exact hb (Fin.ext (by omega))
  · intro h'; exact absurd (Finset.mem_univ _) h'
/-- A nonnegative finite factor goes out of a sum. -/
theorem sum_mul_const {ι : Type} (s : Finset ι) (f : ι → EReal) (c : EReal) (h0 : 0 ≤ c) (h1 : c ≠ ⊤) : ∑ x ∈ s, f x * c = (∑ x ∈ s, f x) * c := by
  classical
  induction s using Finset.induction_on with
  | empty => simp
  | insert a s ha ih => rw [Finset.sum_insert ha, Finset.sum_insert ha, ih, EReal.right_distrib_of_nonneg_of_ne_top h0 h1]
end Cert.MixersIdeal.Own
end
-- ==== Proof.P.RetRef.lean ====
module
public import proofs.«01_k».proof.Proof.Gen.RetentionRefIdeal.Run
public import Idealize.ShloMosaic.Lib.Pipeline.ValueKit
public import Idealize.ShloMosaic.Lib.DynamicIndex
public import Idealize.ShloMosaic.Lib.Claim
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.RetentionRefIdeal.Own
open Cert.RetentionRefIdeal Cert.RetentionRefIdeal.Gen Cert.RetentionRefIdeal.Value

/-- The number `n` as the programs' tables spell it. -/
def num (n : ℕ) : EReal := FloatOps.sitofp (F := Ideal) .f32 (BitVec.ofNat 32 n)
/-- The logarithm of head `h`'s decay, `log (1 - 2 ^ (-5 - h))`. -/
def lg (h : Fin 4) : EReal := Ideal.log (1 - Ideal.exp (Ideal.ofBits .f32 0x3F317218#32 * (Ideal.ofBits .f32 0xC0A00000#32 - num h.val)))

variable (V0 : Valuation τ sig (Elt Ideal))
/-- The rotated queries, by chunk, sequence, row, head and column. -/
abbrev QB : FVec Ideal S32x8x64x4x64 .f32 := V0 (Proc.devRef .tc main_v77_0)
/-- The rotated and scaled keys. -/
abbrev KB : FVec Ideal S32x8x64x4x64 .f32 := V0 (Proc.devRef .tc main_v77_1)
/-- The values. -/
abbrev VB : FVec Ideal S32x8x64x4x128 .f32 := V0 (Proc.devRef .tc main_v77_2)
/-- The state. -/
abbrev SB : FVec Ideal S8x4x64x128 .f32 := V0 (Proc.devRef .tc main_v77_4)
/-- The chunks' results. -/
abbrev OB : FVec Ideal S32x8x64x4x128 .f32 := V0 (Proc.devRef .tc main_v77_5)

/-- A chunk's result, from its queries, keys, values and the state before it. -/
def chunkOut (Q K : Fin 8 → Fin 64 → Fin 4 → Fin 64 → EReal) (V : Fin 8 → Fin 64 → Fin 4 → Fin 128 → EReal) (S : Fin 8 → Fin 4 → Fin 64 → Fin 128 → EReal)
    (b : Fin 8) (n : Fin 64) (h : Fin 4) (e : Fin 128) : EReal :=
  ∑ x, V b x h e * ((∑ y, Q b n h y * K b x h y) * Ideal.exp (lg h * FloatOps.absf (F := Ideal) (φ := .f32) (num n.val - num x.val)))
    + ∑ x, S b h x e * (Q b n h x * Ideal.exp (lg h * (num n.val + 1)))
/-- The state after a chunk. -/
def chunkState (K : Fin 8 → Fin 64 → Fin 4 → Fin 64 → EReal) (V : Fin 8 → Fin 64 → Fin 4 → Fin 128 → EReal) (S : Fin 8 → Fin 4 → Fin 64 → Fin 128 → EReal)
    (b : Fin 8) (h : Fin 4) (d : Fin 64) (e : Fin 128) : EReal :=
  S b h d e * Ideal.exp (lg h * Ideal.ofBits .f32 0x42800000#32)
    + ∑ x, K b x h d * Ideal.exp (lg h * (Ideal.ofBits .f32 0x427C0000#32 - num x.val)) * V b x h e

/-- A dynamic update at a start inside the operand is the static update there. -/
theorem dus {s u : Shape} {α : Type} (x : s.Idx → α) (upd : u.Idx → α) (start : Fin s.rank → Int) (off : Fin s.rank → ℕ) (h : s.Slices (fun _ => 0) u)
    (h' : s.Slices off u) (hs : ∀ a, start a = (off a : Int)) : Host.dynamicUpdateSlice x upd start h = updateSlice x upd off h' :=
  Host.dynamicUpdateSlice_eq_updateSlice x upd start h off (fun a => by have := h'.2 a; rw [hs a]; omega) h'

/-- The trip counter holds `k`. -/
def At (V0 : Valuation τ sig (Elt Ideal)) (k : ℕ) : Prop := V0 (Proc.devRef .tc main_v77_3) = (fun _ => BitVec.ofNat 32 k : IVec S_ 32)

/-- The heads' decay rates in a trip. -/
theorem lg_at (h : Fin 4) : (show FVec Ideal S4 .f32 from res_main_while0b_v121 (F := Ideal) V0) (ix1 h) = lg h := by
  pointwise [lg, num, res_main_while0b_v121]

/-- The positions' numbers in a trip. -/
theorem iota_at (n : Fin 64) : (show FVec Ideal S64 .f32 from res_main_while0b_v122 (F := Ideal) V0) (ix1 n) = num n.val := by
  pointwise [res_main_while0b_v122, num]

variable (k : Fin 32) (hk : At V0 k.val)
include hk
/-- Where a trip reads and writes the stacked buffers. -/
theorem start_at (a : Fin 5) : BitVec.toInt ((![(V0 (Proc.devRef .tc main_v77_3) : IVec S_ 32), constantI S_ 32 0#32, constantI S_ 32 0#32, constantI S_ 32 0#32, constantI S_ 32 0#32] : Fin 5 → IVec S_ 32) a (Shape.Idx.first h_S_)) = ((![k.val, 0, 0, 0, 0] : Fin 5 → ℕ) a : Int) := by
  rw [show (V0 (Proc.devRef .tc main_v77_3) : IVec S_ 32) = _ from hk]
  fin_cases a
  · exact toInt_ofNat_of_lt (by have := k.isLt; omega)
  all_goals rfl

omit hk in
/-- A trip's slice of a stacked buffer. -/
theorem cast64 {α : Type} (x : S32x8x64x4x64.Idx → α) (start : Fin S32x8x64x4x64.rank → Int)
    (hs : ∀ a, start a = ((![k.val, 0, 0, 0, 0] : Fin 5 → ℕ) a : Int)) (hf) (hc) (b : Fin 8) (n : Fin 64) (h : Fin 4) (d : Fin 64) :
    shapeCast S8x64x4x64 (Host.dynamicSlice S1x8x64x4x64 x start hf) hc (ix4 b n h d) = x (ix5 k b n h d) := by
  rw [show Host.dynamicSlice S1x8x64x4x64 x start hf = extractStridedSlice S1x8x64x4x64 ![k.val, 0, 0, 0, 0] x ⟨rfl, by intro a; have := k.isLt; fin_cases a <;> simp <;> omega⟩
    from Host.dynamicSlice_eq_extractStridedSlice _ x start _ hf _ hs]
  pointwise []
omit hk in
/-- A chunk sliced out of the buffer of chunks, at an entry. -/
theorem cast128 {α : Type} (x : S32x8x64x4x128.Idx → α) (start : Fin S32x8x64x4x128.rank → Int)
    (hs : ∀ a, start a = ((![k.val, 0, 0, 0, 0] : Fin 5 → ℕ) a : Int)) (hf) (hc) (b : Fin 8) (n : Fin 64) (h : Fin 4) (d : Fin 128) :
    shapeCast S8x64x4x128 (Host.dynamicSlice S1x8x64x4x128 x start hf) hc (ix4 b n h d) = x (ix5 k b n h d) := by
  rw [show Host.dynamicSlice S1x8x64x4x128 x start hf = extractStridedSlice S1x8x64x4x128 ![k.val, 0, 0, 0, 0] x ⟨rfl, by intro a; have := k.isLt; fin_cases a <;> simp <;> omega⟩
    from Host.dynamicSlice_eq_extractStridedSlice _ x start _ hf _ hs]
  pointwise []
/-- The trip's queries are a chunk of the buffer. -/
theorem q_at (b : Fin 8) (n : Fin 64) (h : Fin 4) (d : Fin 64) : (show FVec Ideal S8x64x4x64 .f32 from res_main_while0b_v110 (F := Ideal) V0) (ix4 b n h d) = QB V0 (ix5 k b n h d) :=
  cast64 k (QB V0) _ (start_at V0 k hk) _ _ b n h d
/-- The trip's keys are a chunk of the buffer. -/
theorem k_at (b : Fin 8) (n : Fin 64) (h : Fin 4) (d : Fin 64) : (show FVec Ideal S8x64x4x64 .f32 from res_main_while0b_v111 (F := Ideal) V0) (ix4 b n h d) = KB V0 (ix5 k b n h d) :=
  cast64 k (KB V0) _ (start_at V0 k hk) _ _ b n h d
/-- The trip's values are a chunk of the buffer. -/
theorem v_at (b : Fin 8) (n : Fin 64) (h : Fin 4) (d : Fin 128) : (show FVec Ideal S8x64x4x128 .f32 from res_main_while0b_v112 (F := Ideal) V0) (ix4 b n h d) = VB V0 (ix5 k b n h d) :=
  cast128 k (VB V0) _ (start_at V0 k hk) _ _ b n h d

/-- The state after a trip. -/
theorem s_at (b : Fin 8) (h : Fin 4) (d : Fin 64) (e : Fin 128) : (show FVec Ideal S8x4x64x128 .f32 from step_main_v77_4 (F := Ideal) V0) (ix4 b h d e)
    = chunkState (fun b n h d => KB V0 (ix5 k b n h d)) (fun b n h e => VB V0 (ix5 k b n h e)) (fun b h d e => SB V0 (ix4 b h d e)) b h d e := by
  have kk := k_at V0 k hk
  have v := v_at V0 k hk
  simp only [step_main_v77_4, id]
  pointwise [kk, v, lg_at V0, iota_at V0, chunkState]

omit hk in
/-- The buffer after a chunk was written into it, at an entry. -/
theorem dus_at {α : Type} (x : S32x8x64x4x128.Idx → α) (u : S1x8x64x4x128.Idx → α) (start : Fin S32x8x64x4x128.rank → Int)
    (hs : ∀ a, start a = ((![k.val, 0, 0, 0, 0] : Fin 5 → ℕ) a : Int)) (hf) (c : Fin 32) (b : Fin 8) (n : Fin 64) (h : Fin 4) (e : Fin 128) :
    Host.dynamicUpdateSlice x u start hf (ix5 c b n h e) = if c = k then u (ix5 0 b n h e) else x (ix5 c b n h e) := by
  refine (congrFun (dus x u start ![k.val, 0, 0, 0, 0] hf ⟨rfl, by intro a; have := k.isLt; fin_cases a <;> simp <;> omega⟩ hs) _).trans ?_
  by_cases hc : c = k
  · subst hc
    pointwise []
    rw [dif_pos ⟨le_rfl, by omega⟩]
    exact congrArg (fun z : Fin 1 => u (ix5 z b n h e)) (Subsingleton.elim _ _)
  · pointwise []
    rw [dif_neg (fun h => hc (Fin.ext (by omega)))]
    exact (if_neg hc).symm
/-- The chunks' results after a trip: the trip's own is added. -/
theorem o_at (c : Fin 32) (b : Fin 8) (n : Fin 64) (h : Fin 4) (e : Fin 128) : (show FVec Ideal S32x8x64x4x128 .f32 from step_main_v77_5 (F := Ideal) V0) (ix5 c b n h e)
    = if c = k then chunkOut (fun b n h d => QB V0 (ix5 k b n h d)) (fun b n h d => KB V0 (ix5 k b n h d)) (fun b n h e => VB V0 (ix5 k b n h e)) (fun b h d e => SB V0 (ix4 b h d e)) b n h e else OB V0 (ix5 c b n h e) := by
  have q := q_at V0 k hk
  have kk := k_at V0 k hk
  have v := v_at V0 k hk
  simp only [step_main_v77_5, id]
  refine (dus_at k _ _ _ (start_at V0 k hk) _ c b n h e).trans ?_
  pointwise [q, kk, v, lg_at V0, iota_at V0, chunkOut]
end Cert.RetentionRefIdeal.Own
end
-- ==== Proof.P.RetEntry.lean ====
module
public import proofs.«01_k».proof.Proof.P.RetRef
public import Idealize.ShloMosaic.Lib.Pipeline.ValueKit
public import Idealize.ShloMosaic.Lib.DynamicIndex
public import Idealize.ShloMosaic.Lib.Claim
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.RetentionRefIdeal.Own
open Cert.RetentionRefIdeal Cert.RetentionRefIdeal.Gen Cert.RetentionRefIdeal.Value

/-- The projected array at row `r` and column `j`. -/
def cell (X : FVec Ideal S16384x3712 .f32) (r j : ℕ) : EReal := if h : r < 16384 ∧ j < 3712 then X (ix2 ⟨r, h.1⟩ ⟨j, h.2⟩) else 0
/-- A cell of the projected array is its entry. -/
theorem cell_eq (X : FVec Ideal S16384x3712 .f32) (r : Fin 16384) (j : Fin 3712) : X (ix2 r j) = cell X r.val j.val :=
  ((dif_pos ⟨r.isLt, j.isLt⟩ : cell X r.val j.val = _)).symm
/-- The rotation's angle at position `t` and frequency `d`. -/
def ang (t d : ℕ) : EReal := num t * Ideal.exp (Ideal.div (-num d) (Ideal.ofBits .f32 1107296256#32) * Ideal.ofBits .f32 1091788174#32)
/-- The rotary encoding of the head that starts at column `o` of a row `f` at position `t`. -/
def rope (f : ℕ → EReal) (t o d : ℕ) : EReal :=
  if d < 32 then f (o + d) * Ideal.cos (ang t d) - f (o + (32 + d)) * Ideal.sin (ang t d)
  else f (o + (d - 32)) * Ideal.sin (ang t (d - 32)) + f (o + d) * Ideal.cos (ang t (d - 32))

variable (X : FVec Ideal S16384x3712 .f32)
/-- The rotated queries of chunk `k`. -/
def rq (k : ℕ) (b : Fin 8) (n : Fin 64) (h : Fin 4) (d : Fin 64) : EReal := rope (cell X (b.val * 2048 + (k * 64 + n.val))) (k * 64 + n.val) (h.val * 64) d.val
/-- The rotated and scaled keys. -/
def rk (k : ℕ) (b : Fin 8) (n : Fin 64) (h : Fin 4) (d : Fin 64) : EReal := rope (cell X (b.val * 2048 + (k * 64 + n.val))) (k * 64 + n.val) (256 + h.val * 64) d.val * Ideal.ofBits .f32 0x3E000000#32
/-- The values. -/
def rv (k : ℕ) (b : Fin 8) (n : Fin 64) (h : Fin 4) (e : Fin 128) : EReal := cell X (b.val * 2048 + (k * 64 + n.val)) (512 + h.val * 128 + e.val)
/-- The state before chunk `k`. -/
def rs : ℕ → Fin 8 → Fin 4 → Fin 64 → Fin 128 → EReal
  | 0 => fun _ _ _ _ => 0
  | k + 1 => chunkState (rk X k) (rv X k) (rs k)
/-- Chunk `k`'s result. -/
def ro (k : ℕ) : Fin 8 → Fin 64 → Fin 4 → Fin 128 → EReal := chunkOut (rq X k) (rk X k) (rv X k) (rs X k)

variable (m : (ℓ : Loc nD τ sig) → Buf (Elt Ideal) ℓ) (c : Dev nD)
/-- The projected array of a launch. -/
abbrev XA : FVec Ideal S16384x3712 .f32 := launchContents m c (Proc.devRef .tc main_arg0)
/-- The queries' buffer when the loop is entered. -/
theorem entry_q (k : Fin 32) (b : Fin 8) (n : Fin 64) (h : Fin 4) (d : Fin 64) : QB (entryContents (preI (F := Ideal)) m c) (ix5 k b n h d) = rq (XA m c) k.val b n h d := by
  unfold QB
  simp only [entryContents, afterL_cons, afterL_nil]
  after_reads_simp
  pointwise [id]
  unfold rq rope
  split
  · after_reads_simp
    pointwise [num, ang]
    have e := cell_eq (XA m c)
    simp only [e]
  · after_reads_simp
    pointwise [num, ang]
    have e := cell_eq (XA m c)
    simp only [e]
    rw [show 32 + (d.val - 32) = d.val by omega]
set_option maxHeartbeats 1600000 in
/-- The keys' buffer when the loop is entered. -/
theorem entry_k (k : Fin 32) (b : Fin 8) (n : Fin 64) (h : Fin 4) (d : Fin 64) : KB (entryContents (preI (F := Ideal)) m c) (ix5 k b n h d) = rk (XA m c) k.val b n h d := by
  unfold KB
  simp only [entryContents, afterL_cons, afterL_nil]
  after_reads_simp
  pointwise [id]
  unfold rk rope
  split
  · after_reads_simp
    pointwise [num, ang]
    have e := cell_eq (XA m c)
    simp only [e]
    simp only [Nat.add_assoc]
  · after_reads_simp
    pointwise [num, ang]
    have e := cell_eq (XA m c)
    simp only [e]
    rw [show 32 + (d.val - 32) = d.val by omega]
    simp only [Nat.add_assoc]
/-- The values' buffer when the loop is entered. -/
theorem entry_v (k : Fin 32) (b : Fin 8) (n : Fin 64) (h : Fin 4) (d : Fin 128) : VB (entryContents (preI (F := Ideal)) m c) (ix5 k b n h d) = rv (XA m c) k.val b n h d := by
  unfold VB
  simp only [entryContents, afterL_cons, afterL_nil]
  after_reads_simp
  pointwise [id]
  have e := cell_eq (XA m c)
  simp only [e, rv, Nat.add_assoc]
/-- The state's buffer is zero when the loop is entered. -/
theorem entry_s (b : Fin 8) (h : Fin 4) (d : Fin 64) (e : Fin 128) : SB (entryContents (preI (F := Ideal)) m c) (ix4 b h d e) = 0 := by
  unfold SB
  simp only [entryContents, afterL_cons, afterL_nil]
  after_reads_simp
  pointwise [id]
end Cert.RetentionRefIdeal.Own
end
-- ==== Proof.P.Blk.lean ====
module
public import proofs.«01_k».proof.Proof.P.Ker
public import proofs.«01_k».proof.Proof.P.RetEntry
@[expose] public section
set_option maxRecDepth 16384
noncomputable section
open Idealize.ShloMosaic Idealize.ShloMosaic.TcCoe Idealize.SL.Sem
open Idealize.ShloMosaic.Pipeline (Dat)
namespace Cert.MixersIdeal.Own
open Cert.MixersIdeal Cert.MixersIdeal.Gen
open Cert.RetentionRefIdeal.Own (num ang cell lg)
variable (m : (ℓ : Loc nD τ sig) → Buf (Elt Ideal) ℓ) (c : Dev nD)

/-- The projected array of a launch. -/
abbrev AP : FVec Ideal S16384x3712 .f32 := m ((c : Thread nD τ).loc main_arg0)
/-- The retention norm's gain. -/
abbrev AG : FVec Ideal S1x512 .f32 := m ((c : Thread nD τ).loc main_arg1)

/-- The windows' index maps at every grid point. -/
theorem idx : ∀ t : Fin cfg0.N, win0_0.index t = ![t.val / 32, t.val % 32, 0] ∧ win0_1.index t = ![t.val % 32, 0] ∧ win0_2.index t = ![t.val % 32, 0]
    ∧ win0_3.index t = ![0, 0, 0] ∧ win0_4.index t = ![0, 0] ∧ win0_8.index t = ![0, 0] ∧ win0_10.index t = ![t.val / 32, t.val % 32, 0] :=
  (by decide +kernel : ∀ t : Fin grid0.N, _)
/-- The grid has 64 points. -/
theorem tlt (t : Fin cfg0.N) : t.val < 64 := lt_of_lt_of_eq t.isLt N_0

/-- The block of the projected array. -/
theorem blk0 (t : Fin cfg0.N) (bi : Fin 4) (n : Fin 64) (j : Fin 3712) :
    (show FVec Ideal S4x64x3712 .f32 from iblk m c 0 t) (ix3 bi n j) = cell (AP m c) ((4 * (t.val / 32) + bi.val) * 2048 + (t.val % 32 * 64 + n.val)) j.val := by
  have := tlt t
  refine Eq.trans ?_ (Cert.RetentionRefIdeal.Own.cell_eq (AP m c) ⟨(4 * (t.val / 32) + bi.val) * 2048 + (t.val % 32 * 64 + n.val), by omega⟩ j)
  blk_simp [iblk, idx t]
  rw [show (win0_0.blk t).view.emb (ix3 bi n j) = (ix3 (⟨4 * (t.val / 32) + bi.val, by omega⟩ : Fin 8) (⟨t.val % 32 * 64 + n.val, by omega⟩ : Fin 2048) j : S8x2048x3712.Idx) by blk_ext [idx t]]
  entry_read
  simp only [List.flatten_cons, List.flatten_nil, List.append_nil]
  after_reads_simp
  pointwise
/-- The gain's block. -/
theorem blk8 (t : Fin cfg0.N) (j : Fin 512) : (show FVec Ideal S1x512 .f32 from iblk m c 8 t) (ix2 0 j) = AG m c (ix2 0 j) := by
  blk_simp [iblk, idx t]
  rw [show (win0_8.blk t).view.emb (ix2 0 j) = (ix2 (0 : Fin 1) j : S1x512.Idx) by blk_ext [idx t]]
  entry_read
  after_reads_simp
  pointwise
/-- The cosines' block. -/
theorem blk1 (t : Fin cfg0.N) (n : Fin 64) (j : Fin 256) : (show FVec Ideal S64x256 .f32 from iblk m c 1 t) (ix2 n j) = Ideal.cos (ang (t.val % 32 * 64 + n.val) (j.val % 64 % 32)) := by
  blk_simp [iblk, idx t]
  rw [show (win0_1.blk t).view.emb (ix2 n j) = (ix2 (⟨t.val % 32 * 64 + n.val, by omega⟩ : Fin 2048) j : S2048x256.Idx) by blk_ext [idx t]]
  entry_read
  after_reads_simp
  pointwise [num, ang]
  split
  · rename_i hj
    after_reads_simp
    pointwise []
    rw [Nat.mod_eq_of_lt hj]
  · rename_i hj
    after_reads_simp
    pointwise []
    rw [show j.val % 64 % 32 = j.val % 64 - 32 by omega]
/-- The sines' block. -/
theorem blk2 (t : Fin cfg0.N) (n : Fin 64) (j : Fin 256) : (show FVec Ideal S64x256 .f32 from iblk m c 2 t) (ix2 n j)
    = if j.val % 64 < 32 then - Ideal.sin (ang (t.val % 32 * 64 + n.val) (j.val % 64)) else Ideal.sin (ang (t.val % 32 * 64 + n.val) (j.val % 64 - 32)) := by
  blk_simp [iblk, idx t]
  rw [show (win0_2.blk t).view.emb (ix2 n j) = (ix2 (⟨t.val % 32 * 64 + n.val, by omega⟩ : Fin 2048) j : S2048x256.Idx) by blk_ext [idx t]]
  entry_read
  after_reads_simp
  pointwise [num, ang]
  split
  · after_reads_simp
    pointwise []
  · after_reads_simp
    pointwise []
/-- The decay tables' block. -/
theorem blk3 (t : Fin cfg0.N) (k : Fin 3) (n : Fin 64) (j : Fin 256) : (show FVec Ideal S3x64x256 .f32 from iblk m c 3 t) (ix3 k n j)
    = (![Ideal.ofBits .f32 0x3E000000#32 * Ideal.exp (lg ⟨j.val / 64, by omega⟩ * FloatOps.absf (F := Ideal) (φ := .f32) (num n.val - num (j.val % 64))),
        Ideal.exp (lg ⟨j.val / 64, by omega⟩ * (num n.val + 1)),
        Ideal.ofBits .f32 0x3E000000#32 * Ideal.exp (lg ⟨j.val / 64, by omega⟩ * (Ideal.ofBits .f32 0x427C0000#32 - num n.val))] : Fin 3 → EReal) k := by
  blk_simp [iblk, idx t]
  rw [show (win0_3.blk t).view.emb (ix3 k n j) = (ix3 k n j : S3x64x256.Idx) by blk_ext [idx t]]
  entry_read
  after_reads_simp
  fin_cases k
  · pointwise []
    after_reads_simp
    pointwise [num, lg]
  · pointwise []
    after_reads_simp
    pointwise [num, lg]
  · pointwise []
    after_reads_simp
    pointwise [num, lg]
/-- A host shift by six is a division by 64. -/
theorem hshr6 : ∀ j : Fin 256, IntOp.shrsi .host (BitVec.ofNat 32 j.val) 6#32 = BitVec.ofNat 32 (j.val / 64) := by decide +kernel
/-- A host shift by seven is a division by 128. -/
theorem hshr7 : ∀ j : Fin 512, IntOp.shrsi .host (BitVec.ofNat 32 j.val) 7#32 = BitVec.ofNat 32 (j.val / 128) := by decide +kernel
/-- The chunk decay's block. -/
theorem blk4 (t : Fin cfg0.N) (j : Fin 256) (l : Fin 512) : (show FVec Ideal S256x512 .f32 from iblk m c 4 t) (ix2 j l) = if j.val / 64 = l.val / 128 then Ideal.exp (lg ⟨j.val / 64, by omega⟩ * Ideal.ofBits .f32 0x42800000#32) else 0 := by
  blk_simp [iblk, idx t]
  rw [show (win0_4.blk t).view.emb (ix2 j l) = (ix2 j l : S256x512.Idx) by blk_ext [idx t]]
  entry_read
  after_reads_simp
  simp -implicitDefEqProofs only [StableHlo.TRef.toBuf, StableHlo.TRef.ofBuf, cast_cast, cast_eq, id]
  pointwise [num, lg]
  rw [hshr6, hshr7]
  exact (congrArg (fun z => Scalar.select z _ _) (same4 ⟨j.val / 64, by omega⟩ ⟨l.val / 128, by omega⟩)).trans (sel_if _ _ _)
end Cert.MixersIdeal.Own
end
-- ==== Proof.P.RetRun.lean ====
module
public import proofs.«01_k».proof.Proof.P.RetEntry
public import Idealize.ShloMosaic.Lib.Pipeline.ValueKit
public import Idealize.ShloMosaic.Lib.DynamicIndex
public import Idealize.ShloMosaic.Lib.Claim
@[expose] public section
set_option maxRecDepth 16384
noncomputable section
open Idealize.ShloMosaic Idealize.ShloMosaic.TcCoe Idealize.SL.Sem
open Idealize.ShloMosaic.Pipeline (Dat)
open Idealize.ShloMosaic.StableHlo
namespace Cert.RetentionRefIdeal.Own
open Cert.RetentionRefIdeal Cert.RetentionRefIdeal.Gen Cert.RetentionRefIdeal.Value

variable (m : (ℓ : Loc nD τ sig) → Buf (Elt Ideal) ℓ) (c : Dev nD)
/-- What the buffers hold after `k` trips. -/
structure Inv (m : (ℓ : Loc nD τ sig) → Buf (Elt Ideal) ℓ) (c : Dev nD) (V0 : Valuation τ sig (Elt Ideal)) (k : ℕ) : Prop where
  at_ : At V0 k
  hq : ∀ (k : Fin 32) b n h d, QB V0 (ix5 k b n h d) = rq (XA m c) k.val b n h d
  hk : ∀ (k : Fin 32) b n h d, KB V0 (ix5 k b n h d) = rk (XA m c) k.val b n h d
  hv : ∀ (k : Fin 32) b n h d, VB V0 (ix5 k b n h d) = rv (XA m c) k.val b n h d
  hs : ∀ b h d e, SB V0 (ix4 b h d e) = rs (XA m c) k b h d e
  ho : ∀ j : Fin 32, j.val < k → ∀ b n h e, OB V0 (ix5 j b n h e) = ro (XA m c) j.val b n h e

/-- Before the first trip. -/
theorem inv_entry : Inv m c (entryContents (preI (F := Ideal)) m c) 0 where
  at_ := ctr_entry m c
  hq := entry_q m c
  hk := entry_k m c
  hv := entry_v m c
  hs := entry_s m c
  ho := fun j h => absurd h (by omega)

/-- A trip keeps the invariant. -/
theorem inv_step (V0 : Valuation τ sig (Elt Ideal)) (k : Fin 32) (H : Inv m c V0 k.val) : Inv m c (STEP V0) (k.val + 1) where
  at_ := by
    unfold At
    rw [STEP_main_v77_3]
    unfold step_main_v77_3
    rw [show V0 (Proc.devRef .tc main_v77_3) = _ from H.at_]
    funext i
    show BitVec.ofNat 32 k.val + 1#32 = _
    rw [BitVec.ofNat_add]
  hq := fun j b n h d => (congrFun (STEP_main_v77_0 V0) _).trans (H.hq j b n h d)
  hk := fun j b n h d => (congrFun (STEP_main_v77_1 V0) _).trans (H.hk j b n h d)
  hv := fun j b n h d => (congrFun (STEP_main_v77_2 V0) _).trans (H.hv j b n h d)
  hs := fun b h d e => by
    refine (congrFun (STEP_main_v77_4 V0) _).trans ((s_at V0 k H.at_ b h d e).trans ?_)
    simp only [H.hk, H.hv, H.hs]
    rfl
  ho := fun j hj b n h e => by
    refine (congrFun (STEP_main_v77_5 V0) _).trans ((o_at V0 k H.at_ j b n h e).trans ?_)
    split
    · rename_i hjk
      subst hjk
      simp only [H.hq, H.hk, H.hv, H.hs]
      rfl
    · rename_i hjk
      exact H.ho j (by have : j.val ≠ k.val := fun h => hjk (Fin.ext h); omega) b n h e
/-- After every trip. -/
theorem inv_iter : ∀ k : ℕ, k ≤ 32 → Inv m c (STEP^[k] (entryContents (preI (F := Ideal)) m c)) k
  | 0, _ => inv_entry m c
  | k + 1, hk => by
    rw [Function.iterate_succ_apply']
    exact inv_step m c _ ⟨k, by omega⟩ (inv_iter k (by omega))

/-- The retention columns of the result, from the projected array's rows and the norm's gain. -/
def retY (X : FVec Ideal S16384x3712 .f32) (G : FVec Ideal S1x512 .f32) (b : Fin 8) (s : Fin 2048) (h : Fin 4) (e : Fin 128) : EReal :=
  let o : Fin 128 → EReal := ro X (s.val / 64) b ⟨s.val % 64, by omega⟩ h
  let g := cell X (b.val * 2048 + s.val) (1024 + (h.val * 128 + e.val))
  let mu := Ideal.div (∑ x, o x) (Ideal.ofBits .f32 1124073472#32)
  g * Ideal.div 1 (1 + Ideal.exp (-g)) * ((o e - mu) * Ideal.rsqrt (Ideal.div (∑ x, (o x - mu) * (o x - mu)) (Ideal.ofBits .f32 1124073472#32) + Ideal.ofBits .f32 925353388#32) * G (ix2 0 ⟨h.val * 128 + e.val, by omega⟩))

/-- The reference's result at a retention column, from what the buffers hold after the last trip. -/
theorem out_of (V : Valuation τ sig (Elt Ideal)) (X : FVec Ideal S16384x3712 .f32) (G : FVec Ideal S1x512 .f32)
    (a0 : V (Proc.devRef .tc main_arg0) = X) (a1 : V (Proc.devRef .tc main_arg1) = G)
    (o : ∀ (j : Fin 32) b n h e, OB V (ix5 j b n h e) = ro X j.val b n h e) (b : Fin 8) (s : Fin 2048) (h : Fin 4) (e : Fin 128) :
    (show FVec Ideal S8x2048x1024 .f32 from out_main_v109 V) (ix3 b s ⟨h.val * 128 + e.val, by omega⟩) = retY X G b s h e := by
  have hh : h.val * 128 + e.val < 512 := by omega
  pointwise [out_main_v109]
  refine (dif_pos hh).trans ?_
  unfold OB at o
  simp only [a0, a1, o]
  have ee := cell_eq X
  simp only [ee]
  rfl
/-- The reference's result at a retention column. -/
theorem out_at (b : Fin 8) (s : Fin 2048) (h : Fin 4) (e : Fin 128) :
    (show FVec Ideal S8x2048x1024 .f32 from out_main_v109 (STEP^[32] (entryContents (preI (F := Ideal)) m c))) (ix3 b s ⟨h.val * 128 + e.val, by omega⟩)
      = retY (XA m c) (m ((c.tc : Thread nD τ).loc main_arg1)) b s h e :=
  out_of _ (XA m c) _ (iter_main_arg0 m c 32) (iter_main_arg1 m c 32) (fun j => (inv_iter m c 32 le_rfl).ho j j.isLt) b s h e
end Cert.RetentionRefIdeal.Own
end
-- ==== Proof.P.Ker2.lean ====
module
public import proofs.«01_k».proof.Proof.P.Ker
@[expose] public section
set_option maxRecDepth 16384
noncomputable section
open Idealize.ShloMosaic Idealize.ShloMosaic.TcCoe Idealize.SL.Sem
open Idealize.ShloMosaic.Pipeline (Dat)
namespace Cert.MixersIdeal.Own
open Cert.MixersIdeal Cert.MixersIdeal.Gen

/-- What a load through a whole buffer reads. -/
theorem ld_at {S : Shape} {e : EltTy} (a : Memref sig .tc .vmem S e) (h : a.IsWhole) (x : Vec Ideal S e) (r : Rect S) :
    View.readAt (Elt Ideal) a.view r.toLoadRect (h.unread x) = View.ld x r := by
  rw [View.readAt_eq_ld, h.read_unread]
/-- The four sequences' results from the loads' entries. -/
theorem ret_of (P : FVec Ideal S4x64x3712 .f32) (C S : FVec Ideal S64x256 .f32) (D : FVec Ideal S3x64x256 .f32) (St : Fin 4 → Fin 256 → Fin 512 → EReal)
    (p0 p1 : FVec Ideal S4x64x256 .f32) (pv : FVec Ideal S4x64x512 .f32) (e0 e1 : FVec Ideal S1x64x256 .f32) (s0 s1 s2 s3 : FVec Ideal S1x256x512 .f32)
    (hp0 : ∀ bi n j, p0 (ix3 bi n j) = P (ix3 bi n ⟨0 + j.val, by omega⟩)) (hp1 : ∀ bi n j, p1 (ix3 bi n j) = P (ix3 bi n ⟨256 + j.val, by omega⟩))
    (hpv : ∀ bi n j, pv (ix3 bi n j) = P (ix3 bi n ⟨512 + j.val, by omega⟩))
    (he0 : ∀ n j, e0 (ix3 0 n j) = D (ix3 0 n j)) (he1 : ∀ n j, e1 (ix3 0 n j) = D (ix3 1 n j))
    (hs0 : ∀ j l, s0 (ix3 0 j l) = St 0 j l) (hs1 : ∀ j l, s1 (ix3 0 j l) = St 1 j l) (hs2 : ∀ j l, s2 (ix3 0 j l) = St 2 j l) (hs3 : ∀ j l, s3 (ix3 0 j l) = St 3 j l)
    (bi : Fin 4) (n : Fin 64) (l : Fin 512) :
    retV (ropeV p0 C S) (ropeV p1 C S) (shapeCast S256x512 (shapeCast S4x64x512 pv shapeCasts_S4x64x512_S4x64x512) shapeCasts_S4x64x512_S256x512)
        (shapeCast S64x256 e0 shapeCasts_S1x64x256_S64x256) (shapeCast S64x256 e1 shapeCasts_S1x64x256_S64x256)
        ![shapeCast S256x512 s0 shapeCasts_S1x256x512_S256x512, shapeCast S256x512 s1 shapeCasts_S1x256x512_S256x512, shapeCast S256x512 s2 shapeCasts_S1x256x512_S256x512, shapeCast S256x512 s3 shapeCasts_S1x256x512_S256x512]
        (ix2 ⟨bi.val * 64 + n.val, by omega⟩ l)
      = outE (rot P C S 0 (by omega) bi) (rot P C S 256 (by omega) bi) (fun n j => D (ix3 0 n j)) (fun n j => D (ix3 1 n j)) (fun n l => P (ix3 bi n ⟨512 + l.val, by omega⟩)) (St bi) n l := by
  rw [retV_at]
  simp only [rot_at p0 C S P 0 (by omega) hp0, rot_at p1 C S P 256 (by omega) hp1]
  have hv : ∀ (n : Fin 64) (l : Fin 512), shapeCast S256x512 (shapeCast S4x64x512 pv shapeCasts_S4x64x512_S4x64x512) shapeCasts_S4x64x512_S256x512 (ix2 ⟨bi.val * 64 + n.val, by omega⟩ l) = P (ix3 bi n ⟨512 + l.val, by omega⟩) := by
    intro n l; pointwise [hpv]
  have hd0 : ∀ (n : Fin 64) (j : Fin 256), shapeCast S64x256 e0 shapeCasts_S1x64x256_S64x256 (ix2 n j) = D (ix3 0 n j) := by
    intro n j; pointwise [he0]
  have hd1 : ∀ (n : Fin 64) (j : Fin 256), shapeCast S64x256 e1 shapeCasts_S1x64x256_S64x256 (ix2 n j) = D (ix3 1 n j) := by
    intro n j; pointwise [he1]
  have hs : ∀ (j : Fin 256) (l : Fin 512), (![shapeCast S256x512 s0 shapeCasts_S1x256x512_S256x512, shapeCast S256x512 s1 shapeCasts_S1x256x512_S256x512, shapeCast S256x512 s2 shapeCasts_S1x256x512_S256x512, shapeCast S256x512 s3 shapeCasts_S1x256x512_S256x512] : Fin 4 → FVec Ideal S256x512 .f32) bi (ix2 j l) = St bi j l := by
    intro j l
    fin_cases bi
    · show shapeCast S256x512 s0 shapeCasts_S1x256x512_S256x512 (ix2 j l) = _; pointwise [hs0]
    · show shapeCast S256x512 s1 shapeCasts_S1x256x512_S256x512 (ix2 j l) = _; pointwise [hs1]
    · show shapeCast S256x512 s2 shapeCasts_S1x256x512_S256x512 (ix2 j l) = _; pointwise [hs2]
    · show shapeCast S256x512 s3 shapeCasts_S1x256x512_S256x512 (ix2 j l) = _; pointwise [hs3]
  simp only [hv, hd0, hd1, hs]
/-- A sequence's new state from the loads' entries. -/
theorem new_of (P : FVec Ideal S4x64x3712 .f32) (C S : FVec Ideal S64x256 .f32) (D : FVec Ideal S3x64x256 .f32) (St : Fin 256 → Fin 512 → EReal) (CD : FVec Ideal S256x512 .f32)
    (p1 : FVec Ideal S4x64x256 .f32) (pv : FVec Ideal S4x64x512 .f32) (e2 : FVec Ideal S1x64x256 .f32) (s : FVec Ideal S1x256x512 .f32)
    (hp1 : ∀ bi n j, p1 (ix3 bi n j) = P (ix3 bi n ⟨256 + j.val, by omega⟩))
    (hpv : ∀ bi n j, pv (ix3 bi n j) = P (ix3 bi n ⟨512 + j.val, by omega⟩))
    (he2 : ∀ n j, e2 (ix3 0 n j) = D (ix3 2 n j)) (hs : ∀ j l, s (ix3 0 j l) = St j l)
    (bi : Fin 4) (j : Fin 256) (l : Fin 512) :
    newV (partQ (ropeV p1 C S) bi) (shapeCast S64x256 e2 shapeCasts_S1x64x256_S64x256) (partV (shapeCast S256x512 (shapeCast S4x64x512 pv shapeCasts_S4x64x512_S4x64x512) shapeCasts_S4x64x512_S256x512) bi)
        (shapeCast S256x512 s shapeCasts_S1x256x512_S256x512) (shapeCast S256x512 CD shapeCasts_S256x512_S256x512) (ix2 j l)
      = newE (rot P C S 256 (by omega) bi) (fun n j => D (ix3 2 n j)) (fun n l => P (ix3 bi n ⟨512 + l.val, by omega⟩)) St (fun j l => CD (ix2 j l)) j l := by
  rw [newE_at]
  simp only [rot_at p1 C S P 256 (by omega) hp1]
  have hv : ∀ (n : Fin 64) (l : Fin 512), shapeCast S256x512 (shapeCast S4x64x512 pv shapeCasts_S4x64x512_S4x64x512) shapeCasts_S4x64x512_S256x512 (ix2 ⟨bi.val * 64 + n.val, by omega⟩ l) = P (ix3 bi n ⟨512 + l.val, by omega⟩) := by
    intro n l; pointwise [hpv]
  have hd2 : ∀ (n : Fin 64) (j : Fin 256), shapeCast S64x256 e2 shapeCasts_S1x64x256_S64x256 (ix2 n j) = D (ix3 2 n j) := by
    intro n j; pointwise [he2]
  have hs' : ∀ (j : Fin 256) (l : Fin 512), shapeCast S256x512 s shapeCasts_S1x256x512_S256x512 (ix2 j l) = St j l := by
    intro j l; pointwise [hs]
  have hc : shapeCast S256x512 CD shapeCasts_S256x512_S256x512 = CD := by
    funext x; idx_vars x; pointwise []
  simp only [hv, hd2, hs', hc]
section Cases
variable (c : Dev nD)
  (a2 : Memref sig .tc .vmem S4x64x3712 .f32) (h2 : a2.IsWhole) (a3 : Memref sig .tc .vmem S64x256 .f32) (h3 : a3.IsWhole)
  (a4 : Memref sig .tc .vmem S64x256 .f32) (h4 : a4.IsWhole) (a5 : Memref sig .tc .vmem S3x64x256 .f32) (h5 : a5.IsWhole)
  (a6 : Memref sig .tc .vmem S256x512 .f32) (h6 : a6.IsWhole) (a10 : Memref sig .tc .vmem S1x512 .f32) (h10 : a10.IsWhole)
  (a15 : Memref sig .tc .vmem S4x256x512 .f32) (h15 : a15.IsWhole)
  (x0 : Vec Ideal S4x64x3712 .f32) (x1 x2 : Vec Ideal S64x256 .f32) (x3 : Vec Ideal S3x64x256 .f32) (x4 : Vec Ideal S256x512 .f32) (x8 : Vec Ideal S1x512 .f32) (xs2 : Vec Ideal S4x256x512 .f32)

include h2 in
/-- The queries' columns of the block. -/
theorem p0_at (bi : Fin 4) (n : Fin 64) (j : Fin 256) : View.readAt (Elt Ideal) a2.view (Rect.unit (s := S4x64x3712) ![0, 0, 0] S4x64x256.size inb_S4x64x3712_S4x64x256_0_0_0).toLoadRect (h2.unread x0) (ix3 bi n j) = x0 (ix3 bi n ⟨0 + j.val, by omega⟩) := by
  rw [ld_at]; pointwise []
/-- The keys' columns of the block. -/
theorem p1_at (bi : Fin 4) (n : Fin 64) (j : Fin 256) : View.readAt (Elt Ideal) a2.view (Rect.unit (s := S4x64x3712) ![0, 0, 256] S4x64x256.size inb_S4x64x3712_S4x64x256_0_0_256).toLoadRect (h2.unread x0) (ix3 bi n j) = x0 (ix3 bi n ⟨256 + j.val, by omega⟩) := by
  rw [ld_at]; pointwise []
/-- The values' columns of the block. -/
theorem pv_at (bi : Fin 4) (n : Fin 64) (j : Fin 512) : View.readAt (Elt Ideal) a2.view (Rect.unit (s := S4x64x3712) ![0, 0, 512] S4x64x512.size inb_S4x64x3712_S4x64x512_0_0_512).toLoadRect (h2.unread x0) (ix3 bi n j) = x0 (ix3 bi n ⟨512 + j.val, by omega⟩) := by
  rw [ld_at]; pointwise []
/-- A decay table of the block. -/
theorem d_at (k : ℕ) (hk : k < 3) (inb) (n : Fin 64) (j : Fin 256) : View.readAt (Elt Ideal) a5.view (Rect.unit (s := S3x64x256) ![k, 0, 0] S1x64x256.size inb).toLoadRect (h5.unread x3) (ix3 0 n j) = x3 (ix3 ⟨k, hk⟩ n j) := by
  rw [ld_at]; pointwise []
/-- One sequence's state as it is loaded. -/
theorem s_at (k : ℕ) (hk : k < 4) (inb) (j : Fin 256) (l : Fin 512) : View.readAt (Elt Ideal) a15.view (Rect.unit (s := S4x256x512) ![k, 0, 0] S1x256x512.size inb).toLoadRect (h15.unread xs2) (ix3 0 j l) = xs2 (ix3 ⟨k, hk⟩ j l) := by
  rw [ld_at]; pointwise []
/-- The cosines as they are loaded. -/
theorem c_at : shapeCast S64x256 (View.readAt (Elt Ideal) a3.view (Rect.unit (s := S64x256) ![0, 0] S64x256.size inb_S64x256_S64x256_0_0).toLoadRect (h3.unread x1)) shapeCasts_S64x256_S64x256 = x1 := by
  rw [ld_at]; funext x; idx_vars x; pointwise []
/-- The chunk's decay as it is loaded. -/
theorem cd_at : View.readAt (Elt Ideal) a6.view (Rect.unit (s := S256x512) ![0, 0] S256x512.size inb_S256x512_S256x512_0_0).toLoadRect (h6.unread x4) = x4 := by
  rw [ld_at]; funext x; idx_vars x; pointwise []
/-- The state's buffer after the first chunk's zeros reads as zero. -/
theorem zero_at (k : ℕ) (hk : k < 4) (inb) (j : Fin 256) (l : Fin 512) : a15.view.readCov (Val := Elt Ideal) kernelRun0_A.sl.HS2_1 (Rect.unit (s := S4x256x512) ![k, 0, 0] S1x256x512.size inb).toLoadRect (ix3 0 j l) = (0 : EReal) := by
  unfold kernelRun0_A.sl.HS2_1
  rw [View.readCov_eq_canon', View.canon_unit_zero (h := by funext a; fin_cases a <;> rfl)]
  pointwise [kernelRun0_A.sl.v2590, kernelRun0_A.sl.v2587, kernelRun0_A.sl.cst_762]

/-- The retention of a chunk of a sequence that is not its first. -/
theorem ret_B (bi : Fin 4) (n : Fin 64) (l : Fin 512) : kernelRun0_B.sl.v242 (F := Ideal) c a2 h2 a3 h3 a4 h4 a5 h5 a15 h15 x0 x1 x2 x3 xs2 (ix2 ⟨bi.val * 64 + n.val, by omega⟩ l)
    = outE (rot x0 x1 x2 0 (by omega) bi) (rot x0 x1 x2 256 (by omega) bi) (fun n j => x3 (ix3 0 n j)) (fun n j => x3 (ix3 1 n j)) (fun n l => x0 (ix3 bi n ⟨512 + l.val, by omega⟩)) (fun j l => xs2 (ix3 bi j l)) n l := by
  have H := ret_of x0 (shapeCast S64x256 (View.readAt (Elt Ideal) a3.view (Rect.unit (s := S64x256) ![0, 0] S64x256.size inb_S64x256_S64x256_0_0).toLoadRect (h3.unread x1)) shapeCasts_S64x256_S64x256)
    (shapeCast S64x256 (View.readAt (Elt Ideal) a4.view (Rect.unit (s := S64x256) ![0, 0] S64x256.size inb_S64x256_S64x256_0_0).toLoadRect (h4.unread x2)) shapeCasts_S64x256_S64x256) x3 (fun bi j l => xs2 (ix3 bi j l))
    _ _ _ _ _ _ _ _ _ (p0_at a2 h2 x0) (p1_at a2 h2 x0) (pv_at a2 h2 x0) (d_at a5 h5 x3 0 (by omega) inb_S3x64x256_S1x64x256_0_0_0) (d_at a5 h5 x3 1 (by omega) inb_S3x64x256_S1x64x256_1_0_0)
    (s_at a15 h15 xs2 0 (by omega) inb_S4x256x512_S1x256x512_0_0_0) (s_at a15 h15 xs2 1 (by omega) inb_S4x256x512_S1x256x512_1_0_0) (s_at a15 h15 xs2 2 (by omega) inb_S4x256x512_S1x256x512_2_0_0) (s_at a15 h15 xs2 3 (by omega) inb_S4x256x512_S1x256x512_3_0_0) bi n l
  refine Eq.trans ?_ (H.trans ?_)
  · rfl
  · rw [c_at, c_at]
/-- The retention of a sequence's first chunk. -/
theorem ret_A (bi : Fin 4) (n : Fin 64) (l : Fin 512) : kernelRun0_A.sl.v242 (F := Ideal) c a2 h2 a3 h3 a4 h4 a5 h5 a15 x0 x1 x2 x3 (ix2 ⟨bi.val * 64 + n.val, by omega⟩ l)
    = outE (rot x0 x1 x2 0 (by omega) bi) (rot x0 x1 x2 256 (by omega) bi) (fun n j => x3 (ix3 0 n j)) (fun n j => x3 (ix3 1 n j)) (fun n l => x0 (ix3 bi n ⟨512 + l.val, by omega⟩)) (fun j l => 0) n l := by
  have H := ret_of x0 (shapeCast S64x256 (View.readAt (Elt Ideal) a3.view (Rect.unit (s := S64x256) ![0, 0] S64x256.size inb_S64x256_S64x256_0_0).toLoadRect (h3.unread x1)) shapeCasts_S64x256_S64x256)
    (shapeCast S64x256 (View.readAt (Elt Ideal) a4.view (Rect.unit (s := S64x256) ![0, 0] S64x256.size inb_S64x256_S64x256_0_0).toLoadRect (h4.unread x2)) shapeCasts_S64x256_S64x256) x3 (fun bi j l => 0)
    _ _ _ _ _ _ _ _ _ (p0_at a2 h2 x0) (p1_at a2 h2 x0) (pv_at a2 h2 x0) (d_at a5 h5 x3 0 (by omega) inb_S3x64x256_S1x64x256_0_0_0) (d_at a5 h5 x3 1 (by omega) inb_S3x64x256_S1x64x256_1_0_0)
    (zero_at a15 0 (by omega) inb_S4x256x512_S1x256x512_0_0_0) (zero_at a15 1 (by omega) inb_S4x256x512_S1x256x512_1_0_0) (zero_at a15 2 (by omega) inb_S4x256x512_S1x256x512_2_0_0) (zero_at a15 3 (by omega) inb_S4x256x512_S1x256x512_3_0_0) bi n l
  refine Eq.trans ?_ (H.trans ?_)
  · rfl
  · rw [c_at, c_at]
end Cases
end Cert.MixersIdeal.Own
end
-- ==== Proof.P.Ker3.lean ====
module
public import proofs.«01_k».proof.Proof.P.Ker2
@[expose] public section
set_option maxRecDepth 16384
noncomputable section
open Idealize.ShloMosaic Idealize.ShloMosaic.TcCoe Idealize.SL.Sem
open Idealize.ShloMosaic.Pipeline (Dat)
namespace Cert.MixersIdeal.Own
open Cert.MixersIdeal Cert.MixersIdeal.Gen

/-- A head's piece of the result's buffer gives its columns their value. -/
theorem tile_y (k : Fin 4) (o : ℕ) (ho : o = k.val * 128) (w : FVec Ideal S4x64x128 .bf16) (f : Fin 4 → Fin 64 → Fin 4 → Fin 128 → EReal)
    (hw : ∀ bi n e, w (ix3 bi n e) = f bi n k e) (bi : Fin 4) (n : Fin 64) (h : Fin 4) (e : Fin 128) :
    View.TileAt (Val := Elt Ideal) (S := S4x64x1024) (e := .bf16) (ix3 bi n ⟨h.val * 128 + e.val, by omega⟩) ![0, 0, o] ![4, 64, 128] w (f bi n h e) := by
  intro x hx
  have h0 : bi.val = 0 + (x 0).val := hx 0
  have h1 : n.val = 0 + (x 1).val := hx 1
  have h2 : h.val * 128 + e.val = o + (x 2).val := hx 2
  have hx2 : (x 2).val < 128 := (x 2).isLt
  have hk : h = k := Fin.ext (by omega)
  subst hk
  have e3 : x = ix3 bi n e := by
    funext a; match a with
    | ⟨0, _⟩ => exact Fin.ext (by show (x 0).val = bi.val; omega)
    | ⟨1, _⟩ => exact Fin.ext (by show (x 1).val = n.val; omega)
    | ⟨2, _⟩ => exact Fin.ext (by show (x 2).val = e.val; omega)
  rw [e3]
  exact hw bi n e
/-- The other half's piece has none of the columns. -/
theorem tile_other (w : FVec Ideal S4x64x512 .bf16) (v : EReal) (bi : Fin 4) (n : Fin 64) (h : Fin 4) (e : Fin 128) :
    View.TileAt (Val := Elt Ideal) (S := S4x64x1024) (e := .bf16) (ix3 bi n ⟨h.val * 128 + e.val, by omega⟩) ![0, 0, 512] ![4, 64, 512] w v := by
  intro x hx
  have h2 : h.val * 128 + e.val = 512 + (x 2).val := hx 2
  omega
/-- The first pieces decide where they cover. -/
theorem canon_append {S : Shape} {e : EltTy} (y : S.Idx) (v : Elt Ideal e) (L2 : List (View.Piece (Elt Ideal) S e)) :
    ∀ L1 : List (View.Piece (Elt Ideal) S e), (∃ p ∈ L1, y ∈ p.1.set) → View.AllAt L1 y v → View.canon (L1 ++ L2) y = v
  | [], hc, _ => by obtain ⟨p, hp, _⟩ := hc; exact absurd hp List.not_mem_nil
  | p :: L, hc, h => by
    rw [List.cons_append]
    by_cases hm : y ∈ p.1.set
    · obtain ⟨x, rfl⟩ := p.1.exists_idx_of_mem hm
      rw [show p.1.idx x = p.1.emb x from rfl, View.canon_cons_emb]
      exact h p List.mem_cons_self x rfl
    · rw [View.canon_cons_of_not_mem _ _ hm]
      refine canon_append y v L2 L ?_ (fun q hq => h q (List.mem_cons_of_mem _ hq))
      obtain ⟨q, hq, hqy⟩ := hc
      rcases List.mem_cons.mp hq with rfl | hq'
      · exact absurd hqy hm
      · exact ⟨q, hq', hqy⟩
/-- A sequence's piece of the state's buffer. -/
theorem tile_s (k : Fin 4) (o : ℕ) (ho : o = k.val) (w : Fin 4 → FVec Ideal S1x256x512 .f32) (bi : Fin 4) (j : Fin 256) (l : Fin 512) :
    View.TileAt (Val := Elt Ideal) (S := S4x256x512) (e := .f32) (ix3 bi j l) ![o, 0, 0] ![1, 256, 512] (w k) (w bi (ix3 0 j l)) := by
  intro x hx
  have h0 : bi.val = o + (x 0).val := hx 0
  have h1 : j.val = 0 + (x 1).val := hx 1
  have h2 : l.val = 0 + (x 2).val := hx 2
  have hx0 : (x 0).val < 1 := (x 0).isLt
  have hk : bi = k := Fin.ext (by omega)
  subst hk
  have e3 : x = ix3 0 j l := by
    funext a; match a with
    | ⟨0, _⟩ => exact Fin.ext (by show (x 0).val = 0; omega)
    | ⟨1, _⟩ => exact Fin.ext (by show (x 1).val = j.val; omega)
    | ⟨2, _⟩ => exact Fin.ext (by show (x 2).val = l.val; omega)
  rw [e3]
/-- The four sequences' pieces over whatever was there. -/
theorem canon_four (w : Fin 4 → FVec Ideal S1x256x512 .f32) (L : List (View.Piece (Elt Ideal) S4x256x512 .f32)) (bi : Fin 4) (j : Fin 256) (l : Fin 512) :
    View.canon ((⟨Rect.unit (s := S4x256x512) ![3, 0, 0] S1x256x512.size inb_S4x256x512_S1x256x512_3_0_0, w 3⟩ : View.Piece (Elt Ideal) S4x256x512 .f32)
      :: ⟨Rect.unit (s := S4x256x512) ![2, 0, 0] S1x256x512.size inb_S4x256x512_S1x256x512_2_0_0, w 2⟩ :: ⟨Rect.unit (s := S4x256x512) ![1, 0, 0] S1x256x512.size inb_S4x256x512_S1x256x512_1_0_0, w 1⟩
      :: ⟨Rect.unit (s := S4x256x512) ![0, 0, 0] S1x256x512.size inb_S4x256x512_S1x256x512_0_0_0, w 0⟩ :: L) (ix3 bi j l) = w bi (ix3 0 j l) := by
  refine canon_append (ix3 bi j l) (w bi (ix3 0 j l)) L [⟨Rect.unit (s := S4x256x512) ![3, 0, 0] S1x256x512.size inb_S4x256x512_S1x256x512_3_0_0, w 3⟩,
    ⟨Rect.unit (s := S4x256x512) ![2, 0, 0] S1x256x512.size inb_S4x256x512_S1x256x512_2_0_0, w 2⟩, ⟨Rect.unit (s := S4x256x512) ![1, 0, 0] S1x256x512.size inb_S4x256x512_S1x256x512_1_0_0, w 1⟩,
    ⟨Rect.unit (s := S4x256x512) ![0, 0, 0] S1x256x512.size inb_S4x256x512_S1x256x512_0_0_0, w 0⟩] ?_ ?_
  · refine View.cover_of_tiledL (s := S4x256x512) _ S1x256x512.size ?_ _
    sl_kernel_rfl
  refine View.allAt_cons_unit _ _ _ _ _ (tile_s 3 3 rfl w bi j l) ?_
  refine View.allAt_cons_unit _ _ _ _ _ (tile_s 2 2 rfl w bi j l) ?_
  refine View.allAt_cons_unit _ _ _ _ _ (tile_s 1 1 rfl w bi j l) ?_
  refine View.allAt_cons_unit _ _ _ _ _ (tile_s 0 0 rfl w bi j l) ?_
  exact View.allAt_nil _ _

/-- A head's norm and gate from the entries of the gate's columns and of the gain. -/
theorem head_of (W : FVec Ideal S256x512 .f32) (P : FVec Ideal S4x64x3712 .f32) (x8 G : FVec Ideal S1x512 .f32) (k : Fin 4) (o : ℕ) (ho : o = k.val * 128) (h1 h2) (g : FVec Ideal S4x64x128 .f32)
    (hg : ∀ bi n e, g (ix3 bi n e) = P (ix3 bi n ⟨1024 + o + e.val, by omega⟩)) (hG : ∀ j, G (ix2 0 j) = x8 (ix2 0 j)) (bi : Fin 4) (n : Fin 64) (e : Fin 128) :
    headV W o h1 h2 g G (ix3 bi n e)
      = normed (fun e => W (ix2 ⟨bi.val * 64 + n.val, by omega⟩ ⟨k.val * 128 + e.val, by omega⟩)) (P (ix3 bi n ⟨1024 + (k.val * 128 + e.val), by omega⟩)) (x8 (ix2 0 ⟨k.val * 128 + e.val, by omega⟩)) e := by
  subst ho
  rw [headV_at _ _ (by omega), hg, hG]
  simp only [Nat.add_assoc]

section Cases
variable (c : Dev nD)
  (a2 : Memref sig .tc .vmem S4x64x3712 .f32) (h2 : a2.IsWhole) (a3 : Memref sig .tc .vmem S64x256 .f32) (h3 : a3.IsWhole)
  (a4 : Memref sig .tc .vmem S64x256 .f32) (h4 : a4.IsWhole) (a5 : Memref sig .tc .vmem S3x64x256 .f32) (h5 : a5.IsWhole)
  (a6 : Memref sig .tc .vmem S256x512 .f32) (h6 : a6.IsWhole) (a10 : Memref sig .tc .vmem S1x512 .f32) (h10 : a10.IsWhole)
  (a15 : Memref sig .tc .vmem S4x256x512 .f32) (h15 : a15.IsWhole)
  (x0 : Vec Ideal S4x64x3712 .f32) (x1 x2 : Vec Ideal S64x256 .f32) (x3 : Vec Ideal S3x64x256 .f32) (x4 : Vec Ideal S256x512 .f32) (x8 : Vec Ideal S1x512 .f32) (xs2 : Vec Ideal S4x256x512 .f32)

/-- A head's gate columns of the block. -/
theorem g_at (o : ℕ) (ho : 1024 + o + 128 ≤ 3712) (inb) (bi : Fin 4) (n : Fin 64) (e : Fin 128) : View.readAt (Elt Ideal) a2.view (Rect.unit (s := S4x64x3712) ![0, 0, 1024 + o] S4x64x128.size inb).toLoadRect (h2.unread x0) (ix3 bi n e) = x0 (ix3 bi n ⟨1024 + o + e.val, by omega⟩) := by
  rw [ld_at]; pointwise []
/-- The gain as it is loaded. -/
theorem gain_at (j : Fin 512) : shapeCast S1x512 (View.readAt (Elt Ideal) a10.view (Rect.unit (s := S1x512) ![0, 0] S1x512.size inb_S1x512_S1x512_0_0).toLoadRect (h10.unread x8)) shapeCasts_S1x512_S1x512 (ix2 0 j) = x8 (ix2 0 j) := by
  rw [ld_at]; pointwise []

/-- A head's result in a later chunk, before its norm is opened. -/
def headsB : Fin 4 → FVec Ideal S4x64x128 .bf16 :=
  ![kernelRun0_B.sl.v278 c a2 h2 a3 h3 a4 h4 a5 h5 a10 h10 a15 h15 x0 x1 x2 x3 x8 xs2, kernelRun0_B.sl.v313 c a2 h2 a3 h3 a4 h4 a5 h5 a10 h10 a15 h15 x0 x1 x2 x3 x8 xs2,
    kernelRun0_B.sl.v348 c a2 h2 a3 h3 a4 h4 a5 h5 a10 h10 a15 h15 x0 x1 x2 x3 x8 xs2, kernelRun0_B.sl.v383 c a2 h2 a3 h3 a4 h4 a5 h5 a10 h10 a15 h15 x0 x1 x2 x3 x8 xs2]
/-- The same in a first chunk. -/
def headsA : Fin 4 → FVec Ideal S4x64x128 .bf16 :=
  ![kernelRun0_A.sl.v278 c a2 h2 a3 h3 a4 h4 a5 h5 a10 h10 a15 x0 x1 x2 x3 x8, kernelRun0_A.sl.v313 c a2 h2 a3 h3 a4 h4 a5 h5 a10 h10 a15 x0 x1 x2 x3 x8,
    kernelRun0_A.sl.v348 c a2 h2 a3 h3 a4 h4 a5 h5 a10 h10 a15 x0 x1 x2 x3 x8, kernelRun0_A.sl.v383 c a2 h2 a3 h3 a4 h4 a5 h5 a10 h10 a15 x0 x1 x2 x3 x8]
/-- Every head's result in a later chunk is the norm and gate of its columns of the retention. -/
theorem headsB_at (k : Fin 4) (bi : Fin 4) (n : Fin 64) (e : Fin 128) : headsB c a2 h2 a3 h3 a4 h4 a5 h5 a10 h10 a15 h15 x0 x1 x2 x3 x8 xs2 k (ix3 bi n e)
    = normed (fun e => kernelRun0_B.sl.v242 (F := Ideal) c a2 h2 a3 h3 a4 h4 a5 h5 a15 h15 x0 x1 x2 x3 xs2 (ix2 ⟨bi.val * 64 + n.val, by omega⟩ ⟨k.val * 128 + e.val, by omega⟩)) (x0 (ix3 bi n ⟨1024 + (k.val * 128 + e.val), by omega⟩)) (x8 (ix2 0 ⟨k.val * 128 + e.val, by omega⟩)) e := by
  have hG := gain_at a10 h10 x8
  fin_cases k
  · exact head_of (kernelRun0_B.sl.v242 (F := Ideal) c a2 h2 a3 h3 a4 h4 a5 h5 a15 h15 x0 x1 x2 x3 xs2) x0 x8 _ 0 0 rfl slices_S256x512_o0_0_S256x128 slices_S1x512_o0_0_S1x128 _ (g_at a2 h2 x0 0 (by omega) inb_S4x64x3712_S4x64x128_0_0_1024) hG bi n e
  · exact head_of (kernelRun0_B.sl.v242 (F := Ideal) c a2 h2 a3 h3 a4 h4 a5 h5 a15 h15 x0 x1 x2 x3 xs2) x0 x8 _ 1 128 rfl slices_S256x512_o0_128_S256x128 slices_S1x512_o0_128_S1x128 _ (g_at a2 h2 x0 128 (by omega) inb_S4x64x3712_S4x64x128_0_0_1152) hG bi n e
  · exact head_of (kernelRun0_B.sl.v242 (F := Ideal) c a2 h2 a3 h3 a4 h4 a5 h5 a15 h15 x0 x1 x2 x3 xs2) x0 x8 _ 2 256 rfl slices_S256x512_o0_256_S256x128 slices_S1x512_o0_256_S1x128 _ (g_at a2 h2 x0 256 (by omega) inb_S4x64x3712_S4x64x128_0_0_1280) hG bi n e
  · exact head_of (kernelRun0_B.sl.v242 (F := Ideal) c a2 h2 a3 h3 a4 h4 a5 h5 a15 h15 x0 x1 x2 x3 xs2) x0 x8 _ 3 384 rfl slices_S256x512_o0_384_S256x128 slices_S1x512_o0_384_S1x128 _ (g_at a2 h2 x0 384 (by omega) inb_S4x64x3712_S4x64x128_0_0_1408) hG bi n e
/-- The same for a first chunk. -/
theorem headsA_at (k : Fin 4) (bi : Fin 4) (n : Fin 64) (e : Fin 128) : headsA c a2 h2 a3 h3 a4 h4 a5 h5 a10 h10 a15 x0 x1 x2 x3 x8 k (ix3 bi n e)
    = normed (fun e => kernelRun0_A.sl.v242 (F := Ideal) c a2 h2 a3 h3 a4 h4 a5 h5 a15 x0 x1 x2 x3 (ix2 ⟨bi.val * 64 + n.val, by omega⟩ ⟨k.val * 128 + e.val, by omega⟩)) (x0 (ix3 bi n ⟨1024 + (k.val * 128 + e.val), by omega⟩)) (x8 (ix2 0 ⟨k.val * 128 + e.val, by omega⟩)) e := by
  have hG := gain_at a10 h10 x8
  fin_cases k
  · exact head_of (kernelRun0_A.sl.v242 (F := Ideal) c a2 h2 a3 h3 a4 h4 a5 h5 a15 x0 x1 x2 x3) x0 x8 _ 0 0 rfl slices_S256x512_o0_0_S256x128 slices_S1x512_o0_0_S1x128 _ (g_at a2 h2 x0 0 (by omega) inb_S4x64x3712_S4x64x128_0_0_1024) hG bi n e
  · exact head_of (kernelRun0_A.sl.v242 (F := Ideal) c a2 h2 a3 h3 a4 h4 a5 h5 a15 x0 x1 x2 x3) x0 x8 _ 1 128 rfl slices_S256x512_o0_128_S256x128 slices_S1x512_o0_128_S1x128 _ (g_at a2 h2 x0 128 (by omega) inb_S4x64x3712_S4x64x128_0_0_1152) hG bi n e
  · exact head_of (kernelRun0_A.sl.v242 (F := Ideal) c a2 h2 a3 h3 a4 h4 a5 h5 a15 x0 x1 x2 x3) x0 x8 _ 2 256 rfl slices_S256x512_o0_256_S256x128 slices_S1x512_o0_256_S1x128 _ (g_at a2 h2 x0 256 (by omega) inb_S4x64x3712_S4x64x128_0_0_1280) hG bi n e
  · exact head_of (kernelRun0_A.sl.v242 (F := Ideal) c a2 h2 a3 h3 a4 h4 a5 h5 a15 x0 x1 x2 x3) x0 x8 _ 3 384 rfl slices_S256x512_o0_384_S256x128 slices_S1x512_o0_384_S1x128 _ (g_at a2 h2 x0 384 (by omega) inb_S4x64x3712_S4x64x128_0_0_1408) hG bi n e

/-- The four sequences' new states after a later chunk. -/
def newsB : Fin 4 → FVec Ideal S256x512 .f32 :=
  ![kernelRun0_B.sl.v213 c a2 h2 a3 h3 a4 h4 a5 h5 a6 h6 a15 h15 x0 x1 x2 x3 x4 xs2, kernelRun0_B.sl.v217 c a2 h2 a3 h3 a4 h4 a5 h5 a6 h6 a15 h15 x0 x1 x2 x3 x4 xs2,
    kernelRun0_B.sl.v221 c a2 h2 a3 h3 a4 h4 a5 h5 a6 h6 a15 h15 x0 x1 x2 x3 x4 xs2, kernelRun0_B.sl.v225 c a2 h2 a3 h3 a4 h4 a5 h5 a6 h6 a15 h15 x0 x1 x2 x3 x4 xs2]
/-- The same after a first chunk. -/
def newsA : Fin 4 → FVec Ideal S256x512 .f32 :=
  ![kernelRun0_A.sl.v213 c a2 h2 a3 h3 a4 h4 a5 h5 a6 h6 a15 x0 x1 x2 x3 x4, kernelRun0_A.sl.v217 c a2 h2 a3 h3 a4 h4 a5 h5 a6 h6 a15 x0 x1 x2 x3 x4,
    kernelRun0_A.sl.v221 c a2 h2 a3 h3 a4 h4 a5 h5 a6 h6 a15 x0 x1 x2 x3 x4, kernelRun0_A.sl.v225 c a2 h2 a3 h3 a4 h4 a5 h5 a6 h6 a15 x0 x1 x2 x3 x4]
/-- A sequence's new state from any state's load. -/
theorem new_ld (St : Fin 256 → Fin 512 → EReal) (s : FVec Ideal S1x256x512 .f32) (hs : ∀ j l, s (ix3 0 j l) = St j l) (bi : Fin 4) (j : Fin 256) (l : Fin 512) :
    newV (partQ (ropeV (View.readAt (Elt Ideal) a2.view (Rect.unit (s := S4x64x3712) ![0, 0, 256] S4x64x256.size inb_S4x64x3712_S4x64x256_0_0_256).toLoadRect (h2.unread x0))
          (shapeCast S64x256 (View.readAt (Elt Ideal) a3.view (Rect.unit (s := S64x256) ![0, 0] S64x256.size inb_S64x256_S64x256_0_0).toLoadRect (h3.unread x1)) shapeCasts_S64x256_S64x256)
          (shapeCast S64x256 (View.readAt (Elt Ideal) a4.view (Rect.unit (s := S64x256) ![0, 0] S64x256.size inb_S64x256_S64x256_0_0).toLoadRect (h4.unread x2)) shapeCasts_S64x256_S64x256)) bi)
        (shapeCast S64x256 (View.readAt (Elt Ideal) a5.view (Rect.unit (s := S3x64x256) ![2, 0, 0] S1x64x256.size inb_S3x64x256_S1x64x256_2_0_0).toLoadRect (h5.unread x3)) shapeCasts_S1x64x256_S64x256)
        (partV (shapeCast S256x512 (shapeCast S4x64x512 (View.readAt (Elt Ideal) a2.view (Rect.unit (s := S4x64x3712) ![0, 0, 512] S4x64x512.size inb_S4x64x3712_S4x64x512_0_0_512).toLoadRect (h2.unread x0)) shapeCasts_S4x64x512_S4x64x512) shapeCasts_S4x64x512_S256x512) bi)
        (shapeCast S256x512 s shapeCasts_S1x256x512_S256x512)
        (shapeCast S256x512 (View.readAt (Elt Ideal) a6.view (Rect.unit (s := S256x512) ![0, 0] S256x512.size inb_S256x512_S256x512_0_0).toLoadRect (h6.unread x4)) shapeCasts_S256x512_S256x512) (ix2 j l)
      = newE (rot x0 x1 x2 256 (by omega) bi) (fun n j => x3 (ix3 2 n j)) (fun n l => x0 (ix3 bi n ⟨512 + l.val, by omega⟩)) St (fun j l => x4 (ix2 j l)) j l := by
  refine (new_of x0 _ _ x3 St _ _ _ _ s (p1_at a2 h2 x0) (pv_at a2 h2 x0) (d_at a5 h5 x3 2 (by omega) inb_S3x64x256_S1x64x256_2_0_0) hs bi j l).trans ?_
  rw [c_at, c_at, cd_at]
/-- The new states after a later chunk, entry by entry. -/
theorem newsB_at (bi : Fin 4) (j : Fin 256) (l : Fin 512) : newsB c a2 h2 a3 h3 a4 h4 a5 h5 a6 h6 a15 h15 x0 x1 x2 x3 x4 xs2 bi (ix2 j l)
    = newE (rot x0 x1 x2 256 (by omega) bi) (fun n j => x3 (ix3 2 n j)) (fun n l => x0 (ix3 bi n ⟨512 + l.val, by omega⟩)) (fun j l => xs2 (ix3 bi j l)) (fun j l => x4 (ix2 j l)) j l := by
  fin_cases bi
  · exact new_ld a2 h2 a3 h3 a4 h4 a5 h5 a6 h6 x0 x1 x2 x3 x4 _ _ (s_at a15 h15 xs2 0 (by omega) inb_S4x256x512_S1x256x512_0_0_0) 0 j l
  · exact new_ld a2 h2 a3 h3 a4 h4 a5 h5 a6 h6 x0 x1 x2 x3 x4 _ _ (s_at a15 h15 xs2 1 (by omega) inb_S4x256x512_S1x256x512_1_0_0) 1 j l
  · exact new_ld a2 h2 a3 h3 a4 h4 a5 h5 a6 h6 x0 x1 x2 x3 x4 _ _ (s_at a15 h15 xs2 2 (by omega) inb_S4x256x512_S1x256x512_2_0_0) 2 j l
  · exact new_ld a2 h2 a3 h3 a4 h4 a5 h5 a6 h6 x0 x1 x2 x3 x4 _ _ (s_at a15 h15 xs2 3 (by omega) inb_S4x256x512_S1x256x512_3_0_0) 3 j l
/-- The new states after a first chunk, entry by entry. -/
theorem newsA_at (bi : Fin 4) (j : Fin 256) (l : Fin 512) : newsA c a2 h2 a3 h3 a4 h4 a5 h5 a6 h6 a15 x0 x1 x2 x3 x4 bi (ix2 j l)
    = newE (rot x0 x1 x2 256 (by omega) bi) (fun n j => x3 (ix3 2 n j)) (fun n l => x0 (ix3 bi n ⟨512 + l.val, by omega⟩)) (fun j l => 0) (fun j l => x4 (ix2 j l)) j l := by
  fin_cases bi
  · exact new_ld a2 h2 a3 h3 a4 h4 a5 h5 a6 h6 x0 x1 x2 x3 x4 _ _ (zero_at a15 0 (by omega) inb_S4x256x512_S1x256x512_0_0_0) 0 j l
  · exact new_ld a2 h2 a3 h3 a4 h4 a5 h5 a6 h6 x0 x1 x2 x3 x4 _ _ (zero_at a15 1 (by omega) inb_S4x256x512_S1x256x512_1_0_0) 1 j l
  · exact new_ld a2 h2 a3 h3 a4 h4 a5 h5 a6 h6 x0 x1 x2 x3 x4 _ _ (zero_at a15 2 (by omega) inb_S4x256x512_S1x256x512_2_0_0) 2 j l
  · exact new_ld a2 h2 a3 h3 a4 h4 a5 h5 a6 h6 x0 x1 x2 x3 x4 _ _ (zero_at a15 3 (by omega) inb_S4x256x512_S1x256x512_3_0_0) 3 j l
end Cases
end Cert.MixersIdeal.Own
end
-- ==== Proof.P.Pt.lean ====
module
public import proofs.«01_k».proof.Proof.P.Ker3
@[expose] public section
set_option maxRecDepth 16384
noncomputable section
open Idealize.ShloMosaic Idealize.ShloMosaic.TcCoe Idealize.SL.Sem
open Idealize.ShloMosaic.Pipeline (Dat)
namespace Cert.MixersIdeal.Own
open Cert.MixersIdeal Cert.MixersIdeal.Gen
variable (m : (ℓ : Loc nD τ sig) → Buf (Elt Ideal) ℓ) (c : Dev nD)

/-- A sequence's new state as it is stored. -/
theorem stored_at (v : FVec Ideal S256x512 .f32) (j : Fin 256) (l : Fin 512) : shapeCast S1x256x512 v shapeCasts_S256x512_S1x256x512 (ix3 0 j l) = v (ix2 j l) := by
  pointwise []

/-- The projected block of point `t`. -/
abbrev B0 (t : Fin cfg0.N) : FVec Ideal S4x64x3712 .f32 := iblk m c 0 t
/-- The cosines' block at a point. -/
abbrev B1 (t : Fin cfg0.N) : FVec Ideal S64x256 .f32 := iblk m c 1 t
/-- The sines' block at a point. -/
abbrev B2 (t : Fin cfg0.N) : FVec Ideal S64x256 .f32 := iblk m c 2 t
/-- The decay tables' block at a point. -/
abbrev B3 (t : Fin cfg0.N) : FVec Ideal S3x64x256 .f32 := iblk m c 3 t
/-- The chunk decay's block at a point. -/
abbrev B4 (t : Fin cfg0.N) : FVec Ideal S256x512 .f32 := iblk m c 4 t
/-- The gain's block at a point. -/
abbrev B8 (t : Fin cfg0.N) : FVec Ideal S1x512 .f32 := iblk m c 8 t
/-- The state's blocks after point `t`. -/
abbrev stAt (n : ℕ) (h : n < cfg0.N) : FVec Ideal S4x256x512 .f32 := (outsAt0 m c n h).2.2.2
/-- A point's retention over the state before it. -/
abbrev oAt (t : Fin cfg0.N) (s : Fin 4 → Fin 256 → Fin 512 → EReal) (bi : Fin 4) (n : Fin 64) (l : Fin 512) : EReal :=
  outE (rot (B0 m c t) (B1 m c t) (B2 m c t) 0 (by omega) bi) (rot (B0 m c t) (B1 m c t) (B2 m c t) 256 (by omega) bi) (fun n j => B3 m c t (ix3 0 n j)) (fun n j => B3 m c t (ix3 1 n j))
    (fun n l => B0 m c t (ix3 bi n ⟨512 + l.val, by omega⟩)) (s bi) n l
/-- A point's new state over the state before it. -/
abbrev nAt (t : Fin cfg0.N) (s : Fin 4 → Fin 256 → Fin 512 → EReal) (bi : Fin 4) (j : Fin 256) (l : Fin 512) : EReal :=
  newE (rot (B0 m c t) (B1 m c t) (B2 m c t) 256 (by omega) bi) (fun n j => B3 m c t (ix3 2 n j)) (fun n l => B0 m c t (ix3 bi n ⟨512 + l.val, by omega⟩)) (s bi) (fun j l => B4 m c t (ix2 j l)) j l

/-- The retention columns a later chunk's point leaves. -/
theorem y_B (t : Fin cfg0.N) (h0 : ¬ t.val % 32 = 0) (bi : Fin 4) (n : Fin 64) (h : Fin 4) (e : Fin 128) :
    (show FVec Ideal S4x64x1024 .bf16 from (outsAt0 m c t.val t.isLt).1) (ix3 bi n ⟨h.val * 128 + e.val, by omega⟩)
      = normed (fun e => oAt m c t (fun bi j l => stAt m c (t.val - 1) (Nat.lt_of_le_of_lt (Nat.sub_le _ _) t.isLt) (ix3 bi j l)) bi n ⟨h.val * 128 + e.val, by omega⟩)
          (B0 m c t (ix3 bi n ⟨1024 + (h.val * 128 + e.val), by omega⟩)) (B8 m c t (ix2 0 ⟨h.val * 128 + e.val, by omega⟩)) e := by
  have H : ∀ (k : Fin 4) (bi : Fin 4) (n : Fin 64) (e : Fin 128), _ := headsB_at c (ms0_0 t) (hs0_0 t) (ms0_1 t) (hs0_1 t) (ms0_2 t) (hs0_2 t) (ms0_3 t) (hs0_3 t) (ms0_8 t) (hs0_8 t) scM0_2 (Memref.isWhole_whole _) (B0 m c t) (B1 m c t) (B2 m c t) (B3 m c t) (B8 m c t) (stAt m c (t.val - 1) (Nat.lt_of_le_of_lt (Nat.sub_le _ _) t.isLt))
  simp only [ret_B] at H
  refine Eq.trans (congrFun (congrArg Prod.fst (outsAt0_B m c t h0)) _) ?_
  dsimp only
  refine (View.read_writes_apply_eq_canon _ _ _ _ (cover0_B_10 ..)).trans ?_
  refine View.canon_eq_of_allAt _ _ _ (cover0_B_10 ..) ?_
  unfold kernelRun0_B
  dsimp only
  let f : Fin 4 → Fin 64 → Fin 4 → Fin 128 → EReal := fun bi n h e =>
    normed (fun e => oAt m c t (fun bi j l => stAt m c (t.val - 1) (Nat.lt_of_le_of_lt (Nat.sub_le _ _) t.isLt) (ix3 bi j l)) bi n ⟨h.val * 128 + e.val, by omega⟩)
          (B0 m c t (ix3 bi n ⟨1024 + (h.val * 128 + e.val), by omega⟩)) (B8 m c t (ix2 0 ⟨h.val * 128 + e.val, by omega⟩)) e
  refine View.allAt_cons_unit _ _ _ _ _ (tile_other _ _ bi n h e) ?_
  refine View.allAt_cons_unit _ _ _ _ _ (tile_y 3 384 rfl _ f (fun bi n e => H 3 bi n e) bi n h e) ?_
  refine View.allAt_cons_unit _ _ _ _ _ (tile_y 2 256 rfl _ f (fun bi n e => H 2 bi n e) bi n h e) ?_
  refine View.allAt_cons_unit _ _ _ _ _ (tile_y 1 128 rfl _ f (fun bi n e => H 1 bi n e) bi n h e) ?_
  refine View.allAt_cons_unit _ _ _ _ _ (tile_y 0 0 rfl _ f (fun bi n e => H 0 bi n e) bi n h e) ?_
  exact View.allAt_nil _ _
/-- The retention columns a first chunk's point leaves. -/
theorem y_A (t : Fin cfg0.N) (h0 : t.val % 32 = 0) (bi : Fin 4) (n : Fin 64) (h : Fin 4) (e : Fin 128) :
    (show FVec Ideal S4x64x1024 .bf16 from (outsAt0 m c t.val t.isLt).1) (ix3 bi n ⟨h.val * 128 + e.val, by omega⟩)
      = normed (fun e => oAt m c t (fun bi j l => 0) bi n ⟨h.val * 128 + e.val, by omega⟩)
          (B0 m c t (ix3 bi n ⟨1024 + (h.val * 128 + e.val), by omega⟩)) (B8 m c t (ix2 0 ⟨h.val * 128 + e.val, by omega⟩)) e := by
  have H : ∀ (k : Fin 4) (bi : Fin 4) (n : Fin 64) (e : Fin 128), _ := headsA_at c (ms0_0 t) (hs0_0 t) (ms0_1 t) (hs0_1 t) (ms0_2 t) (hs0_2 t) (ms0_3 t) (hs0_3 t) (ms0_8 t) (hs0_8 t) scM0_2 (B0 m c t) (B1 m c t) (B2 m c t) (B3 m c t) (B8 m c t)
  simp only [ret_A] at H
  refine Eq.trans (congrFun (congrArg Prod.fst (outsAt0_A m c t h0)) _) ?_
  dsimp only
  refine (View.read_writes_apply_eq_canon _ _ _ _ (cover0_A_10 ..)).trans ?_
  refine View.canon_eq_of_allAt _ _ _ (cover0_A_10 ..) ?_
  unfold kernelRun0_A
  dsimp only
  let f : Fin 4 → Fin 64 → Fin 4 → Fin 128 → EReal := fun bi n h e =>
    normed (fun e => oAt m c t (fun bi j l => 0) bi n ⟨h.val * 128 + e.val, by omega⟩)
          (B0 m c t (ix3 bi n ⟨1024 + (h.val * 128 + e.val), by omega⟩)) (B8 m c t (ix2 0 ⟨h.val * 128 + e.val, by omega⟩)) e
  refine View.allAt_cons_unit _ _ _ _ _ (tile_other _ _ bi n h e) ?_
  refine View.allAt_cons_unit _ _ _ _ _ (tile_y 3 384 rfl _ f (fun bi n e => H 3 bi n e) bi n h e) ?_
  refine View.allAt_cons_unit _ _ _ _ _ (tile_y 2 256 rfl _ f (fun bi n e => H 2 bi n e) bi n h e) ?_
  refine View.allAt_cons_unit _ _ _ _ _ (tile_y 1 128 rfl _ f (fun bi n e => H 1 bi n e) bi n h e) ?_
  refine View.allAt_cons_unit _ _ _ _ _ (tile_y 0 0 rfl _ f (fun bi n e => H 0 bi n e) bi n h e) ?_
  exact View.allAt_nil _ _
/-- The state a later chunk's point leaves. -/
theorem s_B (t : Fin cfg0.N) (h0 : ¬ t.val % 32 = 0) (bi : Fin 4) (j : Fin 256) (l : Fin 512) :
    stAt m c t.val t.isLt (ix3 bi j l) = nAt m c t (fun bi j l => stAt m c (t.val - 1) (Nat.lt_of_le_of_lt (Nat.sub_le _ _) t.isLt) (ix3 bi j l)) bi j l := by
  have H := newsB_at c (ms0_0 t) (hs0_0 t) (ms0_1 t) (hs0_1 t) (ms0_2 t) (hs0_2 t) (ms0_3 t) (hs0_3 t) (ms0_4 t) (hs0_4 t) scM0_2 (Memref.isWhole_whole _) (B0 m c t) (B1 m c t) (B2 m c t) (B3 m c t) (B4 m c t) (stAt m c (t.val - 1) (Nat.lt_of_le_of_lt (Nat.sub_le _ _) t.isLt)) bi j l
  refine Eq.trans ?_ H
  refine Eq.trans (congrFun (congrArg (fun p => p.2.2.2) (outsAt0_B m c t h0)) _) ?_
  dsimp only
  refine (View.read_writes_apply_eq_canon _ _ _ _ (scover0_B_2 ..)).trans ?_
  unfold kernelRun0_B
  dsimp only
  refine (canon_four (fun k => shapeCast S1x256x512 (newsB c (ms0_0 t) (hs0_0 t) (ms0_1 t) (hs0_1 t) (ms0_2 t) (hs0_2 t) (ms0_3 t) (hs0_3 t) (ms0_4 t) (hs0_4 t) scM0_2 (Memref.isWhole_whole _) (B0 m c t) (B1 m c t) (B2 m c t) (B3 m c t) (B4 m c t) (stAt m c (t.val - 1) (Nat.lt_of_le_of_lt (Nat.sub_le _ _) t.isLt)) k) shapeCasts_S256x512_S1x256x512) [] bi j l).trans ?_
  exact stored_at _ j l
/-- The state a first chunk's point leaves. -/
theorem s_A (t : Fin cfg0.N) (h0 : t.val % 32 = 0) (bi : Fin 4) (j : Fin 256) (l : Fin 512) :
    stAt m c t.val t.isLt (ix3 bi j l) = nAt m c t (fun bi j l => 0) bi j l := by
  have H := newsA_at c (ms0_0 t) (hs0_0 t) (ms0_1 t) (hs0_1 t) (ms0_2 t) (hs0_2 t) (ms0_3 t) (hs0_3 t) (ms0_4 t) (hs0_4 t) scM0_2 (B0 m c t) (B1 m c t) (B2 m c t) (B3 m c t) (B4 m c t) bi j l
  refine Eq.trans ?_ H
  refine Eq.trans (congrFun (congrArg (fun p => p.2.2.2) (outsAt0_A m c t h0)) _) ?_
  dsimp only
  refine (View.read_writes_apply_eq_canon _ _ _ _ (scover0_A_2 ..)).trans ?_
  unfold kernelRun0_A
  dsimp only
  refine (canon_four (fun k => shapeCast S1x256x512 (newsA c (ms0_0 t) (hs0_0 t) (ms0_1 t) (hs0_1 t) (ms0_2 t) (hs0_2 t) (ms0_3 t) (hs0_3 t) (ms0_4 t) (hs0_4 t) scM0_2 (B0 m c t) (B1 m c t) (B2 m c t) (B3 m c t) (B4 m c t) k) shapeCasts_S256x512_S1x256x512) kernelRun0_A.sl.HS2_1 bi j l).trans ?_
  exact stored_at _ j l
end Cert.MixersIdeal.Own
end
-- ==== Proof.P.Cmp.lean ====
module
public import proofs.«01_k».proof.Proof.P.Blk
public import proofs.«01_k».proof.Proof.P.RetRun
public import proofs.«01_k».proof.Proof.P.Pt
@[expose] public section
set_option maxRecDepth 16384
noncomputable section
open Idealize.ShloMosaic Idealize.ShloMosaic.TcCoe Idealize.SL.Sem
open Idealize.ShloMosaic.Pipeline (Dat)
namespace Cert.MixersIdeal.Own
open Cert.MixersIdeal Cert.MixersIdeal.Gen
open Cert.RetentionRefIdeal.Own (num ang cell lg rope rq rk rv rs ro retY chunkOut chunkState)

/-- The keys' scale, one eighth. -/
abbrev c8 : EReal := Ideal.ofBits .f32 0x3E000000#32
/-- The scale's literal is one eighth. -/
theorem c8_eq : c8 = ((0.125 : ℝ) : EReal) := by
  show Ideal.ofBits .f32 0x3E000000#32 = _
  simp [Ideal.ofBits, Ideal.ieee, -EReal.coe_mul]; norm_num
/-- The scale is not negative. -/
theorem c8_nonneg : 0 ≤ c8 := by rw [c8_eq]; exact EReal.coe_nonneg.mpr (by norm_num)
/-- The scale is finite. -/
theorem c8_ne_top : c8 ≠ ⊤ := by rw [c8_eq]; exact EReal.coe_ne_top _

/-- The kernel's result over all heads' columns is the head's own. -/
theorem out_eq (q k d0 d1 : Fin 64 → Fin 256 → EReal) (v : Fin 64 → Fin 512 → EReal) (s : Fin 256 → Fin 512 → EReal)
    (Q K : Fin 64 → Fin 4 → Fin 64 → EReal) (V : Fin 64 → Fin 4 → Fin 128 → EReal) (E0 : Fin 64 → Fin 4 → Fin 64 → EReal) (E1 : Fin 64 → Fin 4 → EReal) (S : Fin 4 → Fin 64 → Fin 128 → EReal)
    (hq : ∀ n (h : Fin 4) (d : Fin 64), q n ⟨h.val * 64 + d.val, by omega⟩ = Q n h d) (hk : ∀ n (h : Fin 4) (d : Fin 64), k n ⟨h.val * 64 + d.val, by omega⟩ * c8 = K n h d)
    (hv : ∀ n (h : Fin 4) (e : Fin 128), v n ⟨h.val * 128 + e.val, by omega⟩ = V n h e)
    (hd0 : ∀ n (h : Fin 4) (x : Fin 64), d0 n ⟨h.val * 64 + x.val, by omega⟩ = c8 * E0 n h x) (hd1 : ∀ n (h : Fin 4) (x : Fin 64), d1 n ⟨h.val * 64 + x.val, by omega⟩ = E1 n h)
    (hs : ∀ (j : Fin 256) (l : Fin 512), s j l = if j.val / 64 = l.val / 128 then S ⟨l.val / 128, by omega⟩ ⟨j.val % 64, by omega⟩ ⟨l.val % 128, by omega⟩ else 0)
    (n : Fin 64) (h : Fin 4) (e : Fin 128) :
    outE q k d0 d1 v s n ⟨h.val * 128 + e.val, by omega⟩
      = ∑ x, V x h e * ((∑ y, Q n h y * K x h y) * E0 n h x) + ∑ x, S h x e * (Q n h x * E1 n h) := by
  have hl : (h.val * 128 + e.val) / 128 = h.val := by omega
  have hl' : (h.val * 128 + e.val) % 128 = e.val := by omega
  unfold outE
  simp only [hl]
  congr 1
  · rw [sum_head h (fun x => (∑ y : Fin 256, (if x.val / 64 = y.val / 64 then q n y * k ⟨x.val % 64, by omega⟩ y else 0)) * d0 n x * v ⟨x.val % 64, by omega⟩ ⟨h.val * 128 + e.val, by omega⟩)]
    refine Finset.sum_congr rfl fun x _ => ?_
    have hx : (h.val * 64 + x.val) / 64 = h.val := by omega
    have hx' : (⟨(h.val * 64 + x.val) % 64, by omega⟩ : Fin 64) = x := Fin.ext (by simp only; omega)
    simp only [hx, hx', hv, hd0]
    have hsum : ∑ y : Fin 256, (if h.val = y.val / 64 then q n y * k x y else 0) = ∑ y : Fin 64, Q n h y * k x ⟨h.val * 64 + y.val, by omega⟩ := by
      refine Eq.trans (Finset.sum_congr rfl fun y _ => ?_) ((sum_head h (fun y => q n y * k x y)).trans (Finset.sum_congr rfl fun y _ => by rw [hq]))
      simp only [eq_comm]
    rw [hsum]
    have hc : (∑ y : Fin 64, Q n h y * k x ⟨h.val * 64 + y.val, by omega⟩) * c8 = ∑ y : Fin 64, Q n h y * K x h y := by
      rw [← sum_mul_const _ _ c8 c8_nonneg c8_ne_top]
      exact Finset.sum_congr rfl fun y _ => by rw [mul_assoc, hk]
    rw [← hc]
    rw [mul_comm (V x h e), ← mul_assoc]
  · rw [show (∑ x : Fin 256, q n x * d1 n x * s x ⟨h.val * 128 + e.val, by omega⟩)
        = ∑ x : Fin 256, (if x.val / 64 = h.val then q n x * d1 n x * S h ⟨x.val % 64, by omega⟩ e else 0) from Finset.sum_congr rfl fun x _ => by
      rw [hs]
      simp only [hl, hl']
      by_cases hx : x.val / 64 = h.val
      · rw [if_pos hx, if_pos hx]
      · rw [if_neg hx, if_neg hx, mul_zero]]
    rw [sum_head h (fun x => q n x * d1 n x * S h ⟨x.val % 64, by omega⟩ e)]
    refine Finset.sum_congr rfl fun x _ => ?_
    have hx' : (⟨(h.val * 64 + x.val) % 64, by omega⟩ : Fin 64) = x := Fin.ext (by simp only; omega)
    simp only [hq, hd1, hx']
    rw [mul_comm]

/-- The kernel's new state is zero off the heads' blocks and the head's own on them. -/
theorem new_eq (k d2 : Fin 64 → Fin 256 → EReal) (v : Fin 64 → Fin 512 → EReal) (s cd : Fin 256 → Fin 512 → EReal)
    (K : Fin 64 → Fin 4 → Fin 64 → EReal) (V : Fin 64 → Fin 4 → Fin 128 → EReal) (E2 : Fin 64 → Fin 4 → EReal) (Cd : Fin 4 → EReal) (S : Fin 4 → Fin 64 → Fin 128 → EReal)
    (hk : ∀ n (h : Fin 4) (d : Fin 64), k n ⟨h.val * 64 + d.val, by omega⟩ * c8 = K n h d)
    (hv : ∀ n (h : Fin 4) (e : Fin 128), v n ⟨h.val * 128 + e.val, by omega⟩ = V n h e)
    (hd2 : ∀ n (h : Fin 4) (x : Fin 64), d2 n ⟨h.val * 64 + x.val, by omega⟩ = c8 * E2 n h)
    (hcd : ∀ (j : Fin 256) (l : Fin 512), cd j l = if j.val / 64 = l.val / 128 then Cd ⟨j.val / 64, by omega⟩ else 0)
    (hs : ∀ (j : Fin 256) (l : Fin 512), s j l = if j.val / 64 = l.val / 128 then S ⟨l.val / 128, by omega⟩ ⟨j.val % 64, by omega⟩ ⟨l.val % 128, by omega⟩ else 0)
    (j : Fin 256) (l : Fin 512) :
    newE k d2 v s cd j l = if j.val / 64 = l.val / 128 then S ⟨l.val / 128, by omega⟩ ⟨j.val % 64, by omega⟩ ⟨l.val % 128, by omega⟩ * Cd ⟨l.val / 128, by omega⟩
      + ∑ x, K x ⟨l.val / 128, by omega⟩ ⟨j.val % 64, by omega⟩ * E2 x ⟨l.val / 128, by omega⟩ * V x ⟨l.val / 128, by omega⟩ ⟨l.val % 128, by omega⟩ else 0 := by
  unfold newE
  rw [hs, hcd]
  by_cases hx : j.val / 64 = l.val / 128
  · simp only [if_pos hx, hx]
    congr 1
    refine Finset.sum_congr rfl fun x _ => ?_
    have ej : j = ⟨(⟨l.val / 128, by omega⟩ : Fin 4).val * 64 + (⟨j.val % 64, by omega⟩ : Fin 64).val, by simp only; omega⟩ := Fin.ext (by simp only; omega)
    have el : l = ⟨(⟨l.val / 128, by omega⟩ : Fin 4).val * 128 + (⟨l.val % 128, by omega⟩ : Fin 128).val, by simp only; omega⟩ := Fin.ext (by simp only; omega)
    have h1 := hk x ⟨l.val / 128, by omega⟩ ⟨j.val % 64, by omega⟩
    have h2 := hv x ⟨l.val / 128, by omega⟩ ⟨l.val % 128, by omega⟩
    have h3 := hd2 x ⟨l.val / 128, by omega⟩ ⟨j.val % 64, by omega⟩
    rw [← ej] at h1 h3
    rw [← el] at h2
    rw [h2, h3, ← mul_assoc, h1]
  · simp only [if_neg hx, mul_zero, add_zero]

variable (m : (ℓ : Loc nD τ sig) → Buf (Elt Ideal) ℓ) (c : Dev nD)
/-- The sequence of row block `bi` of grid point `t`. -/
def seq (t : Fin cfg0.N) (bi : Fin 4) : Fin 8 := ⟨4 * (t.val / 32) + bi.val, by have := tlt t; omega⟩
/-- The rotated columns of a head. -/
theorem rot_rope (P : FVec Ideal S4x64x3712 .f32) (C S : FVec Ideal S64x256 .f32) (f : Fin 64 → ℕ → EReal) (p : ℕ) (o : ℕ) (ho : o + 256 ≤ 3712) (bi : Fin 4)
    (hP : ∀ (n : Fin 64) (j : Fin 3712), P (ix3 bi n j) = f n j.val)
    (hC : ∀ (n : Fin 64) (j : Fin 256), C (ix2 n j) = Ideal.cos (ang (p + n.val) (j.val % 64 % 32)))
    (hS : ∀ (n : Fin 64) (j : Fin 256), S (ix2 n j) = if j.val % 64 < 32 then - Ideal.sin (ang (p + n.val) (j.val % 64)) else Ideal.sin (ang (p + n.val) (j.val % 64 - 32)))
    (n : Fin 64) (h : Fin 4) (d : Fin 64) :
    rot P C S o ho bi n ⟨h.val * 64 + d.val, by omega⟩ = rope (f n) (p + n.val) (o + h.val * 64) d.val := by
  unfold rot rope
  have hd : (h.val * 64 + d.val) % 64 = d.val := by omega
  simp only [hP, hC, hS, hd]
  by_cases h32 : d.val < 32
  · simp only [if_pos h32]
    rw [Nat.mod_eq_of_lt h32, show o + (h.val * 64 + d.val + 256 - 224) % 256 = o + h.val * 64 + (32 + d.val) by omega, show o + (h.val * 64 + d.val) = o + h.val * 64 + d.val by omega, mul_neg, ← sub_eq_add_neg]
  · simp only [if_neg h32]
    rw [show d.val % 32 = d.val - 32 by omega, show o + (h.val * 64 + d.val + 256 - 32) % 256 = o + h.val * 64 + (d.val - 32) by omega, show o + (h.val * 64 + d.val) = o + h.val * 64 + d.val by omega, add_comm]

/-- The state's blocks of a sequence before chunk `k`. -/
def blockSt (X : FVec Ideal S16384x3712 .f32) (k : ℕ) (b : Fin 8) (j : Fin 256) (l : Fin 512) : EReal :=
  if j.val / 64 = l.val / 128 then rs X k b ⟨l.val / 128, by omega⟩ ⟨j.val % 64, by omega⟩ ⟨l.val % 128, by omega⟩ else 0
/-- Before the first chunk the state is zero. -/
theorem blockSt_zero (X : FVec Ideal S16384x3712 .f32) (b : Fin 8) (j : Fin 256) (l : Fin 512) : blockSt X 0 b j l = 0 := by
  unfold blockSt
  split
  · rfl
  · rfl
/-- A head's rotated columns at a grid point. -/
theorem rot_at_pt (t : Fin cfg0.N) (o : ℕ) (ho : o + 256 ≤ 3712) (bi : Fin 4) (n : Fin 64) (h : Fin 4) (d : Fin 64) :
    rot (B0 m c t) (B1 m c t) (B2 m c t) o ho bi n ⟨h.val * 64 + d.val, by omega⟩
      = rope (cell (AP m c) ((seq t bi).val * 2048 + (t.val % 32 * 64 + n.val))) (t.val % 32 * 64 + n.val) (o + h.val * 64) d.val :=
  rot_rope _ _ _ (fun n => cell (AP m c) ((seq t bi).val * 2048 + (t.val % 32 * 64 + n.val))) (t.val % 32 * 64) o ho bi (blk0 m c t bi) (blk1 m c t) (blk2 m c t) n h d
/-- A head's queries at a grid point are the reference's. -/
theorem q_pt (t : Fin cfg0.N) (bi : Fin 4) (n : Fin 64) (h : Fin 4) (d : Fin 64) :
    rot (B0 m c t) (B1 m c t) (B2 m c t) 0 (by omega) bi n ⟨h.val * 64 + d.val, by omega⟩ = rq (AP m c) (t.val % 32) (seq t bi) n h d := by
  rw [rot_at_pt, Nat.zero_add]
  rfl
/-- A head's scaled keys at a grid point are the reference's. -/
theorem k_pt (t : Fin cfg0.N) (bi : Fin 4) (n : Fin 64) (h : Fin 4) (d : Fin 64) :
    rot (B0 m c t) (B1 m c t) (B2 m c t) 256 (by omega) bi n ⟨h.val * 64 + d.val, by omega⟩ * c8 = rk (AP m c) (t.val % 32) (seq t bi) n h d := by
  rw [rot_at_pt]
  rfl
/-- A head's values at a grid point are the reference's. -/
theorem v_pt (t : Fin cfg0.N) (bi : Fin 4) (n : Fin 64) (h : Fin 4) (e : Fin 128) :
    B0 m c t (ix3 bi n ⟨512 + (h.val * 128 + e.val), by omega⟩) = rv (AP m c) (t.val % 32) (seq t bi) n h e := by
  refine (blk0 m c t bi n _).trans ?_
  unfold rv
  simp only [Nat.add_assoc]
  rfl
/-- The decay tables at a head's column. -/
theorem d_pt (t : Fin cfg0.N) (n : Fin 64) (h : Fin 4) (x : Fin 64) :
    B3 m c t (ix3 0 n ⟨h.val * 64 + x.val, by omega⟩) = c8 * Ideal.exp (lg h * FloatOps.absf (F := Ideal) (φ := .f32) (num n.val - num x.val))
    ∧ B3 m c t (ix3 1 n ⟨h.val * 64 + x.val, by omega⟩) = Ideal.exp (lg h * (num n.val + 1))
    ∧ B3 m c t (ix3 2 n ⟨h.val * 64 + x.val, by omega⟩) = c8 * Ideal.exp (lg h * (Ideal.ofBits .f32 0x427C0000#32 - num n.val)) := by
  have h1 : (⟨(h.val * 64 + x.val) / 64, by omega⟩ : Fin 4) = h := Fin.ext (by simp only; omega)
  have h2 : (h.val * 64 + x.val) % 64 = x.val := by omega
  refine ⟨(blk3 m c t 0 n _).trans ?_, (blk3 m c t 1 n _).trans ?_, (blk3 m c t 2 n _).trans ?_⟩
  · show Ideal.ofBits .f32 0x3E000000#32 * _ = _
    simp only [h1, h2]
  · show Ideal.exp _ = _
    simp only [h1]
  · show Ideal.ofBits .f32 0x3E000000#32 * _ = _
    simp only [h1]
/-- A point's retention is the reference's chunk. -/
theorem o_pt (t : Fin cfg0.N) (bi : Fin 4) (n : Fin 64) (h : Fin 4) (e : Fin 128) :
    oAt m c t (fun bi => blockSt (AP m c) (t.val % 32) (seq t bi)) bi n ⟨h.val * 128 + e.val, by omega⟩ = ro (AP m c) (t.val % 32) (seq t bi) n h e :=
  out_eq _ _ _ _ _ _ (rq (AP m c) (t.val % 32) (seq t bi)) (rk (AP m c) (t.val % 32) (seq t bi)) (rv (AP m c) (t.val % 32) (seq t bi))
    (fun n h x => Ideal.exp (lg h * FloatOps.absf (F := Ideal) (φ := .f32) (num n.val - num x.val))) (fun n h => Ideal.exp (lg h * (num n.val + 1))) (rs (AP m c) (t.val % 32) (seq t bi))
    (q_pt m c t bi) (k_pt m c t bi) (v_pt m c t bi) (fun n h x => (d_pt m c t n h x).1) (fun n h x => (d_pt m c t n h x).2.1) (fun _ _ => rfl) n h e
/-- A point's new state is the reference's. -/
theorem n_pt (t : Fin cfg0.N) (bi : Fin 4) (j : Fin 256) (l : Fin 512) :
    nAt m c t (fun bi => blockSt (AP m c) (t.val % 32) (seq t bi)) bi j l = blockSt (AP m c) (t.val % 32 + 1) (seq t bi) j l :=
  new_eq _ _ _ _ _ (rk (AP m c) (t.val % 32) (seq t bi)) (rv (AP m c) (t.val % 32) (seq t bi))
    (fun n h => Ideal.exp (lg h * (Ideal.ofBits .f32 0x427C0000#32 - num n.val))) (fun h => Ideal.exp (lg h * Ideal.ofBits .f32 0x42800000#32)) (rs (AP m c) (t.val % 32) (seq t bi))
    (k_pt m c t bi) (v_pt m c t bi) (fun n h x => (d_pt m c t n h x).2.2) (blk4 m c t) (fun _ _ => rfl) j l
/-- After every point the kernel holds the reference's state, on the heads' blocks. -/
theorem s_pt : ∀ (n : ℕ) (hn : n < cfg0.N) (bi : Fin 4) (j : Fin 256) (l : Fin 512),
    stAt m c n hn (ix3 bi j l) = blockSt (AP m c) (n % 32 + 1) (seq ⟨n, hn⟩ bi) j l := by
  intro n
  induction n with
  | zero =>
    intro hn bi j l
    refine (s_A m c ⟨0, hn⟩ rfl bi j l).trans (Eq.trans ?_ (n_pt m c ⟨0, hn⟩ bi j l))
    exact congrArg (fun s => nAt m c ⟨0, hn⟩ s bi j l) (by funext bi j l; exact (blockSt_zero _ _ _ _).symm)
  | succ n ih =>
    intro hn bi j l
    by_cases h0 : (n + 1) % 32 = 0
    · refine (s_A m c ⟨n + 1, hn⟩ h0 bi j l).trans (Eq.trans ?_ (n_pt m c ⟨n + 1, hn⟩ bi j l))
      refine congrArg (fun s => nAt m c ⟨n + 1, hn⟩ s bi j l) ?_
      funext bi j l
      show 0 = blockSt (AP m c) ((n + 1) % 32) _ j l
      rw [h0]; exact (blockSt_zero _ _ _ _).symm
    · refine (s_B m c ⟨n + 1, hn⟩ h0 bi j l).trans (Eq.trans ?_ (n_pt m c ⟨n + 1, hn⟩ bi j l))
      refine congrArg (fun s => nAt m c ⟨n + 1, hn⟩ s bi j l) ?_
      funext bi j l
      refine (ih (by omega) bi j l).trans ?_
      have e1 : n % 32 + 1 = (n + 1) % 32 := by omega
      have e2 : seq ⟨n, by omega⟩ bi = seq ⟨n + 1, hn⟩ bi := Fin.ext (by show 4 * (n / 32) + bi.val = 4 * ((n + 1) / 32) + bi.val; omega)
      rw [e1, e2]
/-- What a point leaves in the result's retention columns. -/
theorem y_pt (t : Fin cfg0.N) (bi : Fin 4) (n : Fin 64) (h : Fin 4) (e : Fin 128) :
    (show FVec Ideal S4x64x1024 .bf16 from (outsAt0 m c t.val t.isLt).1) (ix3 bi n ⟨h.val * 128 + e.val, by omega⟩)
      = retY (AP m c) (AG m c) (seq t bi) ⟨t.val % 32 * 64 + n.val, by omega⟩ h e := by
  have key : (show FVec Ideal S4x64x1024 .bf16 from (outsAt0 m c t.val t.isLt).1) (ix3 bi n ⟨h.val * 128 + e.val, by omega⟩)
      = normed (fun e => oAt m c t (fun bi => blockSt (AP m c) (t.val % 32) (seq t bi)) bi n ⟨h.val * 128 + e.val, by omega⟩)
          (B0 m c t (ix3 bi n ⟨1024 + (h.val * 128 + e.val), by omega⟩)) (B8 m c t (ix2 0 ⟨h.val * 128 + e.val, by omega⟩)) e := by
    by_cases h0 : t.val % 32 = 0
    · refine (y_A m c t h0 bi n h e).trans ?_
      have hs : (fun (bi : Fin 4) (j : Fin 256) (l : Fin 512) => (0 : EReal)) = fun bi => blockSt (AP m c) (t.val % 32) (seq t bi) := by
        funext bi j l; rw [h0]; exact (blockSt_zero _ _ _ _).symm
      rw [hs]
    · refine (y_B m c t h0 bi n h e).trans ?_
      have hs : (fun (bi : Fin 4) (j : Fin 256) (l : Fin 512) => stAt m c (t.val - 1) (Nat.lt_of_le_of_lt (Nat.sub_le _ _) t.isLt) (ix3 bi j l)) = fun bi => blockSt (AP m c) (t.val % 32) (seq t bi) := by
        funext bi j l
        refine (s_pt m c (t.val - 1) _ bi j l).trans ?_
        have e1 : (t.val - 1) % 32 + 1 = t.val % 32 := by omega
        have e2 : seq ⟨t.val - 1, Nat.lt_of_le_of_lt (Nat.sub_le _ _) t.isLt⟩ bi = seq t bi := Fin.ext (by show 4 * ((t.val - 1) / 32) + bi.val = 4 * (t.val / 32) + bi.val; omega)
        rw [e1, e2]
      rw [hs]
  rw [key]
  simp only [o_pt]
  rw [show B0 m c t (ix3 bi n ⟨1024 + (h.val * 128 + e.val), by omega⟩) = _ from blk0 m c t bi n _, show B8 m c t (ix2 0 ⟨h.val * 128 + e.val, by omega⟩) = _ from blk8 m c t _]
  unfold retY
  have e1 : (t.val % 32 * 64 + n.val) / 64 = t.val % 32 := by omega
  have e2 : (⟨(t.val % 32 * 64 + n.val) % 64, by omega⟩ : Fin 64) = n := Fin.ext (by simp only; omega)
  simp only [e1, e2]
  rfl
/-- The result array's retention columns after the run. -/
theorem final (b : Fin 8) (s : Fin 2048) (h : Fin 4) (e : Fin 128) :
    (show FVec Ideal S8x2048x1024 .bf16 from (dats m 0 c).arrAt 10 (cfgs 0).N) (ix3 b s ⟨h.val * 128 + e.val, by omega⟩) = retY (AP m c) (AG m c) b s h e := by
  have key : ∀ i, (fun (i : S8x2048x1024.Idx) (v : EReal) => ∀ (b : Fin 8) (s : Fin 2048) (h : Fin 4) (e : Fin 128), i = ix3 b s ⟨h.val * 128 + e.val, by omega⟩ → v = retY (AP m c) (AG m c) b s h e) i
      ((show FVec Ideal S8x2048x1024 .bf16 from (dats m 0 c).arrAt 10 (cfgs 0).N) i) := by
    refine (dats m 0 c).arrAt_forall_of_covers 10 (fun i v => ∀ (b : Fin 8) (s : Fin 2048) (h : Fin 4) (e : Fin 128), i = ix3 b s ⟨h.val * 128 + e.val, by omega⟩ → v = retY (AP m c) (AG m c) b s h e) (by decide +kernel) fun t hf y => ?_
    blk_simp
    rw [after0_10]
    intro b s h e hi
    have hy : y = ix3 (⟨(y 0).val, (y 0).isLt⟩ : Fin 4) (⟨(y 1).val, (y 1).isLt⟩ : Fin 64) (⟨(y 2).val, (y 2).isLt⟩ : Fin 1024) := by
      funext a; match a with | ⟨0, _⟩ => rfl | ⟨1, _⟩ => rfl | ⟨2, _⟩ => rfl
    generalize (⟨(y 0).val, (y 0).isLt⟩ : Fin 4) = bi at hy
    generalize (⟨(y 1).val, (y 1).isLt⟩ : Fin 64) = n at hy
    generalize (⟨(y 2).val, (y 2).isLt⟩ : Fin 1024) = l at hy
    subst hy
    have ht := tlt t
    have em : (win0_10.blk t).view.emb (ix3 bi n l) = (ix3 (seq t bi) (⟨t.val % 32 * 64 + n.val, by omega⟩ : Fin 2048) l : S8x2048x1024.Idx) := by
      blk_ext [idx t, seq]
    have hi' := em.symm.trans hi
    have hb : seq t bi = b := congrFun hi' 0
    have hs : (⟨t.val % 32 * 64 + n.val, by omega⟩ : Fin 2048) = s := congrFun hi' 1
    have hl : l = (⟨h.val * 128 + e.val, by omega⟩ : Fin 1024) := congrFun hi' 2
    subst hl
    rw [← hb, ← hs]
    exact y_pt m c t bi n h e
  exact key _ b s h e rfl
end Cert.MixersIdeal.Own
end
-- ==== Proof.P.InValue.lean ====
module
public import proofs.«01_k».proof.Proof.Gen.InProjIdeal.Frame
public import proofs.«01_k».proof.Proof.Gen.InProjRefIdeal.Run
public import proofs.«01_k».proof.Proof.Gen.InProjRefIdeal.Read
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)

namespace Cert.InProjRefIdeal.Own
open Cert.InProjRefIdeal Cert.InProjRefIdeal.Gen Cert.InProjRefIdeal.Read
variable (X : FVec Ideal S8x2048x1024 .f32) (G : FVec Ideal S1x1024 .f32) (W : FVec Ideal S1x1024x3712 .f32)

/-- The normalised input row `s` of sequence `b`. -/
def U (b : Fin 8) (s : Fin 2048) (k : Fin 1024) : EReal :=
  X (ix3 b s k) * Ideal.rsqrt (Ideal.div (∑ l : Fin 1024, X (ix3 b s l) * X (ix3 b s l)) (Ideal.ofBits .f32 0x44800000#32) + Ideal.ofBits .f32 0x358637BD#32) * G (ix2 0 k)

/-- The projection of row `s` of sequence `b`, column `c`. -/
def out (b : Fin 8) (s : Fin 2048) (c : Fin 3712) : EReal := ∑ k : Fin 1024, U X G b s k * W (ix3 0 k c)

/-- The reference's result, entry by entry. -/
theorem v16_at (i : Fin 16384) (l : Fin 3712) :
    val_main_v16 (F := Ideal) X G W (ix2 i l) = out X G W ⟨i.val / 2048, by omega⟩ ⟨i.val % 2048, by omega⟩ l := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, out, U]
end Cert.InProjRefIdeal.Own

namespace Cert.InProjIdeal.Own
open Cert.InProjIdeal Cert.InProjIdeal.Gen
variable (m : (ℓ : Loc nD τ sig) → Buf (Elt Ideal) ℓ) (c : Dev nD)

/-- The input array. -/
abbrev AX : FVec Ideal S8x2048x1024 .f32 := m ((c : Thread nD τ).loc main_arg0)
/-- The norm's weights. -/
abbrev AG : FVec Ideal S1x1024 .f32 := m ((c : Thread nD τ).loc main_arg1)
/-- The projection's weights. -/
abbrev AW : FVec Ideal S1x1024x3712 .f32 := m ((c : Thread nD τ).loc main_arg2)

/-- The windows' index maps at every grid point. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The grid has 32 points. -/
theorem tlt (t : Fin cfg0.N) : t.val < 32 := lt_of_lt_of_eq t.isLt N_0

/-- The sequence of grid point `t`. -/
def seq (t : Fin cfg0.N) : Fin 8 := ⟨t.val / 4, by have := tlt t; omega⟩
/-- The position of row `r` of grid point `t`'s block in its sequence. -/
def pos (t : Fin cfg0.N) (r : Fin 512) : Fin 2048 := ⟨t.val % 4 * 512 + r.val, by omega⟩

/-- The block of input rows. -/
theorem blk0 (t : Fin cfg0.N) (r : Fin 512) (k : Fin 1024) :
    (show FVec Ideal S512x1024 .f32 from iblk m c 0 t) (ix2 r k) = AX m c (ix3 (seq t) (pos t r) k) := by
  blk_simp [iblk, idx t]
  entry_read
  pointwise
  blk_ext [idx t, seq, pos]

/-- The norm's weights as every point is given them. -/
theorem blk1 (t : Fin cfg0.N) (k : Fin 1024) :
    (show FVec Ideal S1x1024 .f32 from iblk m c 1 t) (ix2 0 k) = AG m c (ix2 0 k) := by
  blk_simp [iblk, idx t]
  entry_read
  pointwise
  blk_ext [idx t]

/-- The projection's weights as every point is given them. -/
theorem blk2 (t : Fin cfg0.N) (k : Fin 1024) (l : Fin 3712) :
    (show FVec Ideal S1024x3712 .bf16 from iblk m c 2 t) (ix2 k l) = AW m c (ix3 0 k l) := by
  blk_simp [iblk, idx t]
  entry_read
  pointwise
  blk_ext [idx t]

/-- The body's value at a row, over the rows it is given. -/
theorem pay_at (x : FVec Ideal S512x1024 .f32) (g : FVec Ideal S1x1024 .f32) (w : FVec Ideal S1024x3712 .bf16)
    (X : FVec Ideal S8x2048x1024 .f32) (G : FVec Ideal S1x1024 .f32) (W : FVec Ideal S1x1024x3712 .f32)
    (b : Fin 8) (s : Fin 2048) (r : Fin 512) (hx : ∀ k, x (ix2 r k) = X (ix3 b s k))
    (hg : ∀ l, g (ix2 0 l) = G (ix2 0 l)) (hw : ∀ k l, w (ix2 k l) = W (ix3 0 k l)) (l : Fin 3712) :
    k0_pay1 (F := Ideal) x g w (ix2 r l) = InProjRefIdeal.Own.out X G W b s l := by
  pointwise [k0_pay1, hx, hw, hg, InProjRefIdeal.Own.out, InProjRefIdeal.Own.U]

/-- What the body leaves in the result's buffer is the value it computes. -/
theorem out_pay (x0 : FVec Ideal S512x1024 .f32) (x1 : FVec Ideal S1x1024 .f32) (x2 : FVec Ideal S1024x3712 .bf16) :
    out0_3 (F := Ideal) x0 x1 x2 = k0_pay1 (F := Ideal) x0 x1 x2 := by
  unfold out0_3
  rw [View.canon_unit_zero (h := by funext a; fin_cases a <;> rfl)]
  have e0 : View.ld (Val := Elt Ideal) (e' := .f32) x0 r0_0 = x0 := View.ld_unit_lit (Val := Elt Ideal) (e := .f32) (S := S512x1024) (off := ![0, 0]) inb_S512x1024_S512x1024_0_0 x0 (by decide)
  have e1 : View.ld (Val := Elt Ideal) (e' := .f32) x1 r0_1 = x1 := View.ld_unit_lit (Val := Elt Ideal) (e := .f32) (S := S1x1024) (off := ![0, 0]) inb_S1x1024_S1x1024_0_0 x1 (by decide)
  have e2 : View.ld (Val := Elt Ideal) (e' := .bf16) x2 r0_2 = x2 := View.ld_unit_lit (Val := Elt Ideal) (e := .bf16) (S := S1024x3712) (off := ![0, 0]) inb_S1024x3712_S1024x3712_0_0 x2 (by decide)
  rw [e0, e1, e2]

/-- The result array after the run. -/
theorem final : (dats m 0 c).arrAt 3 (cfgs 0).N
    = InProjRefIdeal.Read.val_main_v16 (F := Ideal) (AX m c) (AG m c) (AW m c) := by
  refine (dats m 0 c).arrAt_eq_of_covers 3 _ (by decide +kernel) fun t _ y => ?_
  blk_simp
  rw [after0_3]
  have hy : y = ix2 (⟨(y 0).val, (y 0).isLt⟩ : Fin 512) (⟨(y 1).val, (y 1).isLt⟩ : Fin 3712) := by
    funext a; match a with | ⟨0, _⟩ => rfl | ⟨1, _⟩ => rfl
  generalize (⟨(y 0).val, (y 0).isLt⟩ : Fin 512) = r at hy
  generalize (⟨(y 1).val, (y 1).isLt⟩ : Fin 3712) = l at hy
  subst hy
  have e : (win0_3.blk t).view.emb (ix2 r l) = (ix2 (⟨512 * t.val + r.val, by have := tlt t; omega⟩ : Fin 16384) l : Cert.InProjRefIdeal.S16384x3712.Idx) := by
    blk_ext [idx t]
  rw [e]
  rw [out_pay]
  refine (pay_at _ _ _ _ _ _ (seq t) (pos t r) r (blk0 m c t r) (blk1 m c t) (blk2 m c t) l).trans (Eq.trans ?_ (InProjRefIdeal.Own.v16_at _ _ _ _ _).symm)
  have hs : seq t = ⟨(512 * t.val + r.val) / 2048, by have := tlt t; omega⟩ := Fin.ext (by show t.val / 4 = (512 * t.val + r.val) / 2048; omega)
  have hp : pos t r = ⟨(512 * t.val + r.val) % 2048, by omega⟩ := Fin.ext (by show t.val % 4 * 512 + r.val = (512 * t.val + r.val) % 2048; omega)
  rw [hs, hp]
end Cert.InProjIdeal.Own
end
-- ==== Proof.P.OutValue.lean ====
module
public import proofs.«01_k».proof.Proof.Gen.OutProjIdeal.Frame
public import proofs.«01_k».proof.Proof.Gen.OutProjRefIdeal.Run
public import proofs.«01_k».proof.Proof.Gen.OutProjRefIdeal.Read
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)

namespace Cert.OutProjRefIdeal.Own
open Cert.OutProjRefIdeal Cert.OutProjRefIdeal.Gen Cert.OutProjRefIdeal.Read
variable (X : FVec Ideal S8x2048x1024 .f32) (Y : FVec Ideal S8x2048x1024 .bf16) (W : FVec Ideal S1x1024x1024 .f32) (G : FVec Ideal S1024 .f32)

/-- The residual plus the output projection of row `s` of sequence `b`, column `l`. -/
def H (b : Fin 8) (s : Fin 2048) (l : Fin 1024) : EReal := X (ix3 b s l) + ∑ k : Fin 1024, Y (ix3 b s k) * W (ix3 0 k l)

/-- The layer's result there: the last RMSNorm. -/
def out (b : Fin 8) (s : Fin 2048) (l : Fin 1024) : EReal :=
  H X Y W b s l * Ideal.rsqrt (Ideal.div (∑ k : Fin 1024, H X Y W b s k * H X Y W b s k) (Ideal.ofBits .f32 0x44800000#32) + Ideal.ofBits .f32 0x358637BD#32) * G (ix1 l)

/-- The reference's residual sum, entry by entry. -/
theorem v3_at (b : Fin 8) (s : Fin 2048) (l : Fin 1024) : val_main_v3 (F := Ideal) X Y W (ix3 b s l) = H X Y W b s l := by
  pointwise [val_main_v3, val_main_v2, val_main_v1, val_main_v0, H]

/-- The reference's result, entry by entry. -/
theorem v17_at (i : Fin 16384) (l : Fin 1024) :
    val_main_v17 (F := Ideal) X Y W G (ix2 i l) = out X Y W G ⟨i.val / 2048, by omega⟩ ⟨i.val % 2048, by omega⟩ l := by
  pointwise [val_main_v17, val_main_v16, val_main_v15, val_main_v14, val_main_v13, val_main_v12, val_main_v11, val_main_v10, val_main_v9, val_main_v8, val_main_v7, val_main_v6, val_main_v5, val_main_v4, v3_at, val_main_cst, val_main_cst_0, val_main_cst_1, out]
end Cert.OutProjRefIdeal.Own

namespace Cert.OutProjIdeal.Own
open Cert.OutProjIdeal Cert.OutProjIdeal.Gen
variable (m : (ℓ : Loc nD τ sig) → Buf (Elt Ideal) ℓ) (c : Dev nD)

/-- The residual stream. -/
abbrev AX : FVec Ideal S8x2048x1024 .f32 := m ((c : Thread nD τ).loc main_arg0)
/-- The mixers' result. -/
abbrev AY : FVec Ideal S8x2048x1024 .bf16 := m ((c : Thread nD τ).loc main_arg1)
/-- The projection's weights. -/
abbrev AW : FVec Ideal S1x1024x1024 .f32 := m ((c : Thread nD τ).loc main_arg2)
/-- The last norm's weights. -/
abbrev AG : FVec Ideal S1024 .f32 := m ((c : Thread nD τ).loc main_arg3)

/-- The windows' index maps at every grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

/-- The grid has 32 points. -/
theorem tlt (t : Fin cfg0.N) : t.val < 32 := lt_of_lt_of_eq t.isLt N_0

/-- The sequence of grid point `t`. -/
def seq (t : Fin cfg0.N) : Fin 8 := ⟨t.val / 4, by have := tlt t; omega⟩
/-- The position of row `r` of grid point `t`'s block in its sequence. -/
def pos (t : Fin cfg0.N) (r : Fin 512) : Fin 2048 := ⟨t.val % 4 * 512 + r.val, by omega⟩

/-- The block of the residual stream's rows. -/
theorem blk0 (t : Fin cfg0.N) (r : Fin 512) (k : Fin 1024) :
    (show FVec Ideal S512x1024 .f32 from iblk m c 0 t) (ix2 r k) = AX m c (ix3 (seq t) (pos t r) k) := by
  blk_simp [iblk, idx t]
  entry_read
  pointwise
  blk_ext [idx t, seq, pos]

/-- The block of the mixers' rows. -/
theorem blk1 (t : Fin cfg0.N) (r : Fin 512) (k : Fin 1024) :
    (show FVec Ideal S512x1024 .bf16 from iblk m c 1 t) (ix2 r k) = AY m c (ix3 (seq t) (pos t r) k) := by
  blk_simp [iblk, idx t]
  entry_read
  pointwise
  blk_ext [idx t, seq, pos]

/-- The projection's weights as every point is given them. -/
theorem blk2 (t : Fin cfg0.N) (k l : Fin 1024) :
    (show FVec Ideal S1024x1024 .bf16 from iblk m c 2 t) (ix2 k l) = AW m c (ix3 0 k l) := by
  blk_simp [iblk, idx t]
  entry_read
  pointwise
  blk_ext [idx t]

/-- The norm's weights as every point is given them. -/
theorem blk3 (t : Fin cfg0.N) (l : Fin 1024) :
    (show FVec Ideal S1x1024 .f32 from iblk m c 3 t) (ix2 0 l) = AG m c (ix1 l) := by
  blk_simp [iblk, idx t]
  entry_read
  pointwise
  blk_ext [idx t]

/-- The body's value at a row, over the rows it is given. -/
theorem pay_at (x : FVec Ideal S512x1024 .f32) (y : FVec Ideal S512x1024 .bf16) (w : FVec Ideal S1024x1024 .bf16) (g : FVec Ideal S1x1024 .f32)
    (X : FVec Ideal S8x2048x1024 .f32) (Y : FVec Ideal S8x2048x1024 .bf16) (W : FVec Ideal S1x1024x1024 .f32) (G : FVec Ideal S1024 .f32)
    (b : Fin 8) (s : Fin 2048) (r : Fin 512) (hx : ∀ k, x (ix2 r k) = X (ix3 b s k)) (hy : ∀ k, y (ix2 r k) = Y (ix3 b s k))
    (hw : ∀ k l, w (ix2 k l) = W (ix3 0 k l)) (hg : ∀ l, g (ix2 0 l) = G (ix1 l)) (l : Fin 1024) :
    k0_pay1 (F := Ideal) x y w g (ix2 r l) = OutProjRefIdeal.Own.out X Y W G b s l := by
  pointwise [k0_pay1, hx, hy, hw, hg, OutProjRefIdeal.Own.out, OutProjRefIdeal.Own.H]

/-- What the body leaves in the result's buffer is the value it computes. -/
theorem out_pay (x0 : FVec Ideal S512x1024 .f32) (x1 : FVec Ideal S512x1024 .bf16) (x2 : FVec Ideal S1024x1024 .bf16) (x3 : FVec Ideal S1x1024 .f32) :
    out0_4 (F := Ideal) x0 x1 x2 x3 = k0_pay1 (F := Ideal) x0 x1 x2 x3 := by
  unfold out0_4
  rw [View.canon_unit_zero (h := by funext a; fin_cases a <;> rfl)]
  have e0 : View.ld (Val := Elt Ideal) (e' := .f32) x0 r0_0 = x0 := View.ld_unit_lit (Val := Elt Ideal) (e := .f32) (S := S512x1024) (off := ![0, 0]) inb_S512x1024_S512x1024_0_0 x0 (by decide)
  have e1 : View.ld (Val := Elt Ideal) (e' := .bf16) x1 r0_0 = x1 := View.ld_unit_lit (Val := Elt Ideal) (e := .bf16) (S := S512x1024) (off := ![0, 0]) inb_S512x1024_S512x1024_0_0 x1 (by decide)
  have e2 : View.ld (Val := Elt Ideal) (e' := .bf16) x2 r0_1 = x2 := View.ld_unit_lit (Val := Elt Ideal) (e := .bf16) (S := S1024x1024) (off := ![0, 0]) inb_S1024x1024_S1024x1024_0_0 x2 (by decide)
  have e3 : View.ld (Val := Elt Ideal) (e' := .f32) x3 r0_2 = x3 := View.ld_unit_lit (Val := Elt Ideal) (e := .f32) (S := S1x1024) (off := ![0, 0]) inb_S1x1024_S1x1024_0_0 x3 (by decide)
  rw [e0, e1, e2, e3]

/-- The result array after the run. -/
theorem final : (dats m 0 c).arrAt 4 (cfgs 0).N
    = OutProjRefIdeal.Read.val_main_v17 (F := Ideal) (AX m c) (AY m c) (AW m c) (AG m c) := by
  refine (dats m 0 c).arrAt_eq_of_covers 4 _ (by decide +kernel) fun t _ y => ?_
  blk_simp
  rw [after0_4]
  have hy : y = ix2 (⟨(y 0).val, (y 0).isLt⟩ : Fin 512) (⟨(y 1).val, (y 1).isLt⟩ : Fin 1024) := by
    funext a; match a with | ⟨0, _⟩ => rfl | ⟨1, _⟩ => rfl
  generalize (⟨(y 0).val, (y 0).isLt⟩ : Fin 512) = r at hy
  generalize (⟨(y 1).val, (y 1).isLt⟩ : Fin 1024) = l at hy
  subst hy
  have e : (win0_4.blk t).view.emb (ix2 r l) = (ix2 (⟨512 * t.val + r.val, by have := tlt t; omega⟩ : Fin 16384) l : Cert.OutProjRefIdeal.S16384x1024.Idx) := by
    blk_ext [idx t]
  rw [e]
  rw [out_pay]
  refine (pay_at _ _ _ _ _ _ _ _ (seq t) (pos t r) r (blk0 m c t r) (blk1 m c t r) (blk2 m c t) (blk3 m c t) l).trans (Eq.trans ?_ (OutProjRefIdeal.Own.v17_at _ _ _ _ _ _).symm)
  have hs : seq t = ⟨(512 * t.val + r.val) / 2048, by have := tlt t; omega⟩ := Fin.ext (by show t.val / 4 = (512 * t.val + r.val) / 2048; omega)
  have hp : pos t r = ⟨(512 * t.val + r.val) % 2048, by omega⟩ := Fin.ext (by show t.val % 4 * 512 + r.val = (512 * t.val + r.val) % 2048; omega)
  rw [hs, hp]
end Cert.OutProjIdeal.Own
end
-- ==== Proof.P.RunProjIdeal.lean ====
module

public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import Idealize.ShloMosaic.Lib.Pipeline.FrameBody
public import Idealize.ShloMosaic.Lib.Pipeline.Frame
public import Idealize.ShloMosaic.Lib.Exec

@[expose] public section

set_option maxRecDepth 16384

noncomputable section

namespace Cert.ProjIdeal.Own

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's first condition: the grid point is the first. -/
abbrev cond0_0 (i : grid0.Coords) : Prop :=
  (Scalar.cmpi .ne (Scalar.extui (Scalar.cmpi .eq (BitVec.ofNat 32 (i 0).val) 0#32)) 0#32) = 1#1

/-- It holds at grid point 0 and at no other. -/
theorem hcond0_0 : ∀ t : Fin cfg0.N, cond0_0 (grid0.coords t) ↔ t.val = 0 :=
  (by decide +kernel : ∀ t : Fin grid0.N, cond0_0 (grid0.coords t) ↔ t.val = 0)

set_option maxHeartbeats 4000000 in
/-- The body at the first grid point, which stores the rounded weights first: the pieces its stores leave in the output's staging buffer, in the weights' scratch and in the carried row, with the proof that it runs; the carried row is found at any contents `xs1`. -/
noncomputable def runA (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x2176 .f32) (harg6 : arg6.IsWhole) (arg7 : Memref sig .tc .vmem S512x3712 .f32) (harg7 : arg7.IsWhole) (arg8 : Memref sig .tc .vmem S1024x3712 .bf16) (harg8 : arg8.IsWhole) (arg9 : Memref sig .tc .vmem S1x2176 .f32) (harg9 : arg9.IsWhole) (hc0 : cond0_0 i)
    (x0 : Vec F S512x1024 .f32) (x1 : Vec F S1x1024 .f32) (x2 : Vec F S1024x3712 .f32) (x3 : Vec F S512x128 .f32) (x4 : Vec F S512x128 .f32) (x5 : Vec F S1x2176 .f32) (xs1 : Vec F S1x2176 .f32) :
    Σ' (L6 : List (View.Piece (Elt F) S512x3712 .f32)), Σ' (LS0 : List (View.Piece (Elt F) S1024x3712 .bf16)), { LS1 : List (View.Piece (Elt F) S1x2176 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9) K } := by
  refine ⟨?_, ?_, ?_, fun E K => ?run⟩
  case run =>
    simp only [cc0_in_proj_eq_skeleton]; unfold cc0_in_proj_skel
    simp only [k0_part1_eq_skeleton, k0_part2_eq_skeleton, k0_part3_eq_skeleton, k0_part4_eq_skeleton, k0_part5_eq_skeleton]
    unfold k0_part1_skel k0_part2_skel k0_part3_skel k0_part4_skel k0_part5_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

set_option maxHeartbeats 4000000 in
/-- The body at a later grid point, over the rounded weights `xs0` and the carried row `xs1` the point before left: the pieces its stores leave in the output's staging buffer and in the carried row, with the proof that it runs. -/
noncomputable def runB (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x2176 .f32) (harg6 : arg6.IsWhole) (arg7 : Memref sig .tc .vmem S512x3712 .f32) (harg7 : arg7.IsWhole) (arg8 : Memref sig .tc .vmem S1024x3712 .bf16) (harg8 : arg8.IsWhole) (arg9 : Memref sig .tc .vmem S1x2176 .f32) (harg9 : arg9.IsWhole) (hc0 : ¬cond0_0 i)
    (x0 : Vec F S512x1024 .f32) (x1 : Vec F S1x1024 .f32) (x2 : Vec F S1024x3712 .f32) (x3 : Vec F S512x128 .f32) (x4 : Vec F S512x128 .f32) (x5 : Vec F S1x2176 .f32) (xs0 : Vec F S1024x3712 .bf16) (xs1 : Vec F S1x2176 .f32) :
    Σ' (L6 : List (View.Piece (Elt F) S512x3712 .f32)), { LS1 : List (View.Piece (Elt F) S1x2176 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9) K } := by
  refine ⟨?_, ?_, fun E K => ?run⟩
  case run =>
    simp only [cc0_in_proj_eq_skeleton]; unfold cc0_in_proj_skel
    simp only [k0_part1_eq_skeleton, k0_part2_eq_skeleton, k0_part3_eq_skeleton, k0_part4_eq_skeleton, k0_part5_eq_skeleton]
    unfold k0_part1_skel k0_part2_skel k0_part3_skel k0_part4_skel k0_part5_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _; isplitr; · ipureintro; exact harg8.read_unread _
      iexact HS0
    iexists _; iexact HS1

end Cert.ProjIdeal.Own

end
-- ==== Proof.P.PiecesProjIdeal.lean ====
module

public import proofs.«01_k».proof.Proof.P.RunProjIdeal
import all proofs.«01_k».proof.Proof.P.RunProjIdeal
public import Idealize.ShloMosaic.Lib.Pipeline.Value

@[expose] public section

set_option maxRecDepth 16384

noncomputable section

namespace Cert.ProjIdeal.Own

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The bit the body selects on: the grid point begins a sequence. -/
def seqBit (i : grid0.Coords) : BitVec 1 := runA.sl.v30 i

/-- It is set at the first grid point. -/
theorem seqBit_first : ∀ t : Fin cfg0.N, t.val = 0 → seqBit (grid0.coords t) = 1#1 :=
  (by decide +kernel : ∀ t : Fin grid0.N, t.val = 0 → seqBit (grid0.coords t) = 1#1)

/-- The normalised and rounded rows of a block. -/
def uA (x0 : Vec F S512x1024 .f32) (x1 : Vec F S1x1024 .f32) : FVec F S512x1024 .bf16 :=
  k0_pay4 (View.ld x0 (Rect.unit ![0, 0] ![512, 1024] inb_S512x1024_S512x1024_0_0)) (View.ld x1 (Rect.unit ![0, 0] ![1, 1024] inb_S1x1024_S1x1024_0_0))

/-- The rounded weights the first point leaves in scratch. -/
def wbL (x2 : Vec F S1024x3712 .f32) : List (View.Piece (Elt F) S1024x3712 .bf16) :=
  [⟨Rect.unit ![0, 0] ![1024, 3712] inb_S1024x3712_S1024x3712_0_0, k0_pay3 (View.ld x2 (Rect.unit ![0, 0] ![1024, 3712] inb_S1024x3712_S1024x3712_0_0))⟩]

/-- The rounded weights as one array. -/
def wb (x2 : Vec F S1024x3712 .f32) : Vec F S1024x3712 .bf16 := View.canon (wbL x2)

/-- What a point stores into the output's block, over the rounded weights `W` and the carried row `C` (the last store first). -/
def outL (v : BitVec 1) (x0 : Vec F S512x1024 .f32) (x1 : Vec F S1x1024 .f32) (x3 : Vec F S512x128 .f32) (x4 : Vec F S512x128 .f32) (x5 : Vec F S1x2176 .f32)
    (W : Vec F S1024x3712 .bf16) (C : Vec F S1x2176 .f32) : List (View.Piece (Elt F) S512x3712 .f32) :=
  [⟨Rect.unit ![0, 3584] ![512, 128] inb_S512x3712_S512x128_0_3584, k0_pay2 (k0_pay21 (uA x0 x1) (View.ld W (Rect.unit ![0, 3584] ![1024, 128] inb_S1024x3712_S1024x128_0_3584))) (k0_pay24 v (k0_pay21 (uA x0 x1) (View.ld W (Rect.unit ![0, 3584] ![1024, 128] inb_S1024x3712_S1024x128_0_3584))) (View.ld C (Rect.unit ![0, 2048] ![1, 128] inb_S1x2176_S1x128_0_2048))) (View.ld x5 (Rect.unit ![0, 2048] ![1, 128] inb_S1x2176_S1x128_0_2048))⟩,
    ⟨Rect.unit ![0, 3072] ![512, 512] inb_S512x3712_S512x512_0_3072, k0_pay23 v (k0_pay18 (uA x0 x1) (View.ld W (Rect.unit ![0, 3072] ![1024, 512] inb_S1024x3712_S1024x512_0_3072))) (View.ld C (Rect.unit ![0, 1536] ![1, 512] inb_S1x2176_S1x512_0_1536)) (View.ld x5 (Rect.unit ![0, 1536] ![1, 512] inb_S1x2176_S1x512_0_1536))⟩,
    ⟨Rect.unit ![0, 2560] ![512, 512] inb_S512x3712_S512x512_0_2560, k0_pay20 v (k0_pay13 (uA x0 x1) (View.ld W (Rect.unit ![0, 2560] ![1024, 512] inb_S1024x3712_S1024x512_0_2560))) (View.ld C (Rect.unit ![0, 1024] ![1, 512] inb_S1x2176_S1x512_0_1024)) (View.ld x5 (Rect.unit ![0, 1024] ![1, 512] inb_S1x2176_S1x512_0_1024))⟩,
    ⟨Rect.unit ![0, 2048] ![512, 512] inb_S512x3712_S512x512_0_2048, k0_pay17 (k0_pay10 (uA x0 x1) (View.ld W (Rect.unit ![0, 2048] ![1024, 512] inb_S1024x3712_S1024x512_0_2048))) (k0_pay14 (uA x0 x1) v (View.ld W (Rect.unit ![0, 2048] ![1024, 512] inb_S1024x3712_S1024x512_0_2048)) (View.ld C (Rect.unit ![0, 512] ![1, 512] inb_S1x2176_S1x512_0_512))) (View.ld x5 (Rect.unit ![0, 512] ![1, 512] inb_S1x2176_S1x512_0_512))⟩,
    ⟨Rect.unit ![0, 1536] ![512, 512] inb_S512x3712_S512x512_0_1536, k0_pay12 v (k0_pay8 (uA x0 x1) (View.ld W (Rect.unit ![0, 1536] ![1024, 512] inb_S1024x3712_S1024x512_0_1536))) (View.ld C (Rect.unit ![0, 0] ![1, 512] inb_S1x2176_S1x512_0_0)) (View.ld x5 (Rect.unit ![0, 0] ![1, 512] inb_S1x2176_S1x512_0_0))⟩,
    ⟨Rect.unit ![0, 1024] ![512, 512] inb_S512x3712_S512x512_0_1024, k0_pay9 (uA x0 x1) (View.ld W (Rect.unit ![0, 1024] ![1024, 512] inb_S1024x3712_S1024x512_0_1024))⟩,
    ⟨Rect.unit ![0, 512] ![512, 512] inb_S512x3712_S512x512_0_512, k0_pay8 (uA x0 x1) (View.ld W (Rect.unit ![0, 512] ![1024, 512] inb_S1024x3712_S1024x512_0_512))⟩,
    ⟨Rect.unit ![0, 0] ![512, 512] inb_S512x3712_S512x512_0_0, k0_pay7 (k0_pay8 (uA x0 x1) (View.ld W (Rect.unit ![0, 0] ![1024, 512] inb_S1024x3712_S1024x512_0_0))) (View.ld x3 (Rect.unit ![0, 0] ![512, 128] inb_S512x128_S512x128_0_0)) (View.ld x4 (Rect.unit ![0, 0] ![512, 128] inb_S512x128_S512x128_0_0))⟩]

/-- What a point stores into the carried row. -/
def carryL (x0 : Vec F S512x1024 .f32) (x1 : Vec F S1x1024 .f32) (W : Vec F S1024x3712 .bf16) : List (View.Piece (Elt F) S1x2176 .f32) :=
  [⟨Rect.unit ![0, 2048] ![1, 128] inb_S1x2176_S1x128_0_2048, k0_pay1 (k0_pay25 (k0_pay21 (uA x0 x1) (View.ld W (Rect.unit ![0, 3584] ![1024, 128] inb_S1024x3712_S1024x128_0_3584))))⟩,
    ⟨Rect.unit ![0, 1536] ![1, 512] inb_S1x2176_S1x512_0_1536, k0_pay22 (k0_pay18 (uA x0 x1) (View.ld W (Rect.unit ![0, 3072] ![1024, 512] inb_S1024x3712_S1024x512_0_3072)))⟩,
    ⟨Rect.unit ![0, 1024] ![1, 512] inb_S1x2176_S1x512_0_1024, k0_pay19 (k0_pay13 (uA x0 x1) (View.ld W (Rect.unit ![0, 2560] ![1024, 512] inb_S1024x3712_S1024x512_0_2560)))⟩,
    ⟨Rect.unit ![0, 512] ![1, 512] inb_S1x2176_S1x512_0_512, k0_pay16 (k0_pay15 (uA x0 x1) (View.ld W (Rect.unit ![0, 2048] ![1024, 512] inb_S1024x3712_S1024x512_0_2048)))⟩,
    ⟨Rect.unit ![0, 0] ![1, 512] inb_S1x2176_S1x512_0_0, k0_pay11 (k0_pay8 (uA x0 x1) (View.ld W (Rect.unit ![0, 1536] ![1024, 512] inb_S1024x3712_S1024x512_0_1536)))⟩]

/-- Where a sequence begins the carried row is not used. -/
theorem outL_first (x0 : Vec F S512x1024 .f32) (x1 : Vec F S1x1024 .f32) (x3 : Vec F S512x128 .f32) (x4 : Vec F S512x128 .f32) (x5 : Vec F S1x2176 .f32)
    (W : Vec F S1024x3712 .bf16) (C C' : Vec F S1x2176 .f32) : outL 1#1 x0 x1 x3 x4 x5 W C = outL 1#1 x0 x1 x3 x4 x5 W C' := rfl

/-- The stores into the output's block cover it. -/
theorem cover_out (v : BitVec 1) (x0 : Vec F S512x1024 .f32) (x1 : Vec F S1x1024 .f32) (x3 : Vec F S512x128 .f32) (x4 : Vec F S512x128 .f32) (x5 : Vec F S1x2176 .f32)
    (W : Vec F S1024x3712 .bf16) (C : Vec F S1x2176 .f32) (y : S512x3712.Idx) : ∃ pc ∈ outL v x0 x1 x3 x4 x5 W C, y ∈ pc.1.set :=
  View.cover_of_tiledBy (outL v x0 x1 x3 x4 x5 W C) ![512, 128] (by sl_kernel_rfl) y

/-- The stores into the carried row cover it. -/
theorem cover_carry (x0 : Vec F S512x1024 .f32) (x1 : Vec F S1x1024 .f32) (W : Vec F S1024x3712 .bf16) (y : S1x2176.Idx) :
    ∃ pc ∈ carryL x0 x1 W, y ∈ pc.1.set :=
  View.cover_of_tiledBy (carryL x0 x1 W) ![1, 128] (by sl_kernel_rfl) y

/-- The store into the weights' scratch covers it. -/
theorem cover_wb (x2 : Vec F S1024x3712 .f32) (y : S1024x3712.Idx) : ∃ pc ∈ wbL x2, y ∈ pc.1.set :=
  View.cover_of_wholeMem (wbL x2) (by sl_whole_mem) y

section Run
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x2176 .f32) (harg6 : arg6.IsWhole) (arg7 : Memref sig .tc .vmem S512x3712 .f32) (harg7 : arg7.IsWhole) (arg8 : Memref sig .tc .vmem S1024x3712 .bf16) (harg8 : arg8.IsWhole) (arg9 : Memref sig .tc .vmem S1x2176 .f32) (harg9 : arg9.IsWhole)
    (x0 : Vec F S512x1024 .f32) (x1 : Vec F S1x1024 .f32) (x2 : Vec F S1024x3712 .f32) (x3 : Vec F S512x128 .f32) (x4 : Vec F S512x128 .f32) (x5 : Vec F S1x2176 .f32)

/-- The first point's run stores these pieces into the output's block. -/
theorem runA_out (hc0 : cond0_0 i) (xs1 : Vec F S1x2176 .f32) :
    (runA c i arg1 harg1 arg2 harg2 arg3 harg3 arg4 harg4 arg5 harg5 arg6 harg6 arg7 harg7 arg8 harg8 arg9 harg9 hc0 x0 x1 x2 x3 x4 x5 xs1).1 = outL (seqBit i) x0 x1 x3 x4 x5 (wb x2) xs1 := by
  dsimp only [runA]
  simp only [View.readAt_eq_ld, Memref.IsWhole.read_unread, View.readCov_eq_canon', runA.sl.v31, runA.sl.v33, runA.sl.v53, runA.sl.v56, runA.sl.v67, runA.sl.v90, runA.sl.v92, runA.sl.v113, runA.sl.v115, runA.sl.v136, runA.sl.v138, runA.sl.v167, runA.sl.HS0_1]
  rfl
/-- The first point's run stores the rounded weights into scratch. -/
theorem runA_wb (hc0 : cond0_0 i) (xs1 : Vec F S1x2176 .f32) :
    (runA c i arg1 harg1 arg2 harg2 arg3 harg3 arg4 harg4 arg5 harg5 arg6 harg6 arg7 harg7 arg8 harg8 arg9 harg9 hc0 x0 x1 x2 x3 x4 x5 xs1).2.1 = wbL x2 := by
  dsimp only [runA]
  simp only [View.readAt_eq_ld, Memref.IsWhole.read_unread, View.readCov_eq_canon', runA.sl.HS0_1]
  rfl

/-- The first point's run stores these pieces into the carried row. -/
theorem runA_carry (hc0 : cond0_0 i) (xs1 : Vec F S1x2176 .f32) :
    (runA c i arg1 harg1 arg2 harg2 arg3 harg3 arg4 harg4 arg5 harg5 arg6 harg6 arg7 harg7 arg8 harg8 arg9 harg9 hc0 x0 x1 x2 x3 x4 x5 xs1).2.2.1 = carryL x0 x1 (wb x2) := by
  dsimp only [runA]
  simp only [View.readAt_eq_ld, Memref.IsWhole.read_unread, View.readCov_eq_canon', runA.sl.v56, runA.sl.v67, runA.sl.v90, runA.sl.v113, runA.sl.v136, runA.sl.HS0_1]
  rfl

/-- A later point's run stores these pieces into the output's block. -/
theorem runB_out (hc0 : ¬cond0_0 i) (xs0 : Vec F S1024x3712 .bf16) (xs1 : Vec F S1x2176 .f32) :
    (runB c i arg1 harg1 arg2 harg2 arg3 harg3 arg4 harg4 arg5 harg5 arg6 harg6 arg7 harg7 arg8 harg8 arg9 harg9 hc0 x0 x1 x2 x3 x4 x5 xs0 xs1).1 = outL (seqBit i) x0 x1 x3 x4 x5 xs0 xs1 := by
  dsimp only [runB]
  simp only [View.readAt_eq_ld, Memref.IsWhole.read_unread, View.readCov_eq_canon', runB.sl.v92, runB.sl.v115, runB.sl.v138, runB.sl.v167]
  rfl

/-- A later point's run stores these pieces into the carried row. -/
theorem runB_carry (hc0 : ¬cond0_0 i) (xs0 : Vec F S1024x3712 .bf16) (xs1 : Vec F S1x2176 .f32) :
    (runB c i arg1 harg1 arg2 harg2 arg3 harg3 arg4 harg4 arg5 harg5 arg6 harg6 arg7 harg7 arg8 harg8 arg9 harg9 hc0 x0 x1 x2 x3 x4 x5 xs0 xs1).2.1 = carryL x0 x1 xs0 := by
  dsimp only [runB]
  simp only [View.readAt_eq_ld, Memref.IsWhole.read_unread, View.readCov_eq_canon']
  rfl
end Run

end Cert.ProjIdeal.Own

end
-- ==== Proof.P.FrameProjIdeal.lean ====
module

public import proofs.«01_k».proof.Proof.P.PiecesProjIdeal
public import Idealize.ShloMosaic.Lib.Pipeline.Quiescent

@[expose] public section

set_option maxRecDepth 16384

noncomputable section

namespace Cert.ProjIdeal.Own

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers and the scratch the body is called with -/

/-- Window 0's staging buffer at point `t`. -/
abbrev ms0_0 (t : Fin cfg0.N) : Memref sig .tc .vmem S512x1024 .f32 := win0_0.stage (cfg0.slots t 0)
/-- It is a whole buffer. -/
abbrev hs0_0 (t : Fin cfg0.N) : (ms0_0 t).IsWhole := hstage0_0 ((cfg0.slots t 0).cast nbuf0_0)
/-- Window 1's staging buffer at point `t`. -/
abbrev ms0_1 (t : Fin cfg0.N) : Memref sig .tc .vmem S1x1024 .f32 := win0_1.stage (cfg0.slots t 1)
/-- It is a whole buffer. -/
abbrev hs0_1 (t : Fin cfg0.N) : (ms0_1 t).IsWhole := hstage0_1 ((cfg0.slots t 1).cast nbuf0_1)
/-- Window 2's staging buffer at point `t`. -/
abbrev ms0_2 (t : Fin cfg0.N) : Memref sig .tc .vmem S1024x3712 .f32 := win0_2.stage (cfg0.slots t 2)
/-- It is a whole buffer. -/
abbrev hs0_2 (t : Fin cfg0.N) : (ms0_2 t).IsWhole := hstage0_2 ((cfg0.slots t 2).cast nbuf0_2)
/-- Window 3's staging buffer at point `t`. -/
abbrev ms0_3 (t : Fin cfg0.N) : Memref sig .tc .vmem S512x128 .f32 := win0_3.stage (cfg0.slots t 3)
/-- It is a whole buffer. -/
abbrev hs0_3 (t : Fin cfg0.N) : (ms0_3 t).IsWhole := hstage0_3 ((cfg0.slots t 3).cast nbuf0_3)
/-- Window 4's staging buffer at point `t`. -/
abbrev ms0_4 (t : Fin cfg0.N) : Memref sig .tc .vmem S512x128 .f32 := win0_4.stage (cfg0.slots t 4)
/-- It is a whole buffer. -/
abbrev hs0_4 (t : Fin cfg0.N) : (ms0_4 t).IsWhole := hstage0_4 ((cfg0.slots t 4).cast nbuf0_4)
/-- Window 5's staging buffer at point `t`. -/
abbrev ms0_5 (t : Fin cfg0.N) : Memref sig .tc .vmem S1x2176 .f32 := win0_5.stage (cfg0.slots t 5)
/-- It is a whole buffer. -/
abbrev hs0_5 (t : Fin cfg0.N) : (ms0_5 t).IsWhole := hstage0_5 ((cfg0.slots t 5).cast nbuf0_5)
/-- Window 6's staging buffer at point `t`. -/
abbrev ms0_6 (t : Fin cfg0.N) : Memref sig .tc .vmem S512x3712 .f32 := win0_6.stage (cfg0.slots t 6)
/-- It is a whole buffer. -/
abbrev hs0_6 (t : Fin cfg0.N) : (ms0_6 t).IsWhole := hstage0_6 ((cfg0.slots t 6).cast nbuf0_6)
/-- The weights' scratch buffer. -/
abbrev scM0_0 : Memref sig .tc .vmem S1024x3712 .bf16 := Memref.whole cc0_scratch0
/-- The carried row's scratch buffer. -/
abbrev scM0_1 : Memref sig .tc .vmem S1x2176 .f32 := Memref.whole cc0_scratch1

/-- The launch's rest of the region: both scratch buffers at anything and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What each point leaves -/

/-- The rounded weights, from the block the first point is given. -/
def Wc (c : Dev nD) : Vec F S1024x3712 .bf16 := wb (iblk m c 2 ⟨0, by rw [show cfg0.N = 32 from N_0]; omega⟩)

/-- The carried row after point `t`: it depends on that point's block alone. -/
def Cc (c : Dev nD) (t : Fin cfg0.N) : Vec F S1x2176 .f32 := View.canon (carryL (iblk m c 0 t) (iblk m c 1 t) (Wc m c))

/-- The output's block after point `t`. -/
def outC (c : Dev nD) (t : Fin cfg0.N) : Vec F S512x3712 .f32 :=
  View.canon (outL (seqBit (grid0.coords t)) (iblk m c 0 t) (iblk m c 1 t) (iblk m c 3 t) (iblk m c 4 t) (iblk m c 5 t) (Wc m c)
    (Cc m c ⟨t.val - 1, lt_of_le_of_lt (Nat.sub_le _ _) t.isLt⟩))

/-- The first point rounds the weights it is given. -/
theorem Wc_first (c : Dev nD) (t : Fin cfg0.N) (hz : t.val = 0) : Wc m c = wb (iblk m c 2 t) := by
  obtain ⟨n, hn⟩ := t
  dsimp only at hz
  subst hz; rfl

/-- The same, at the float type of the data. -/
theorem Wc_first' (c : Dev nD) (t : Fin cfg0.N) (hz : t.val = 0) : Wc m c = wb (F := F) (iblk m c 2 t) := Wc_first m c t hz

/-- At the first point the block does not depend on the carried row. -/
theorem outC_first (c : Dev nD) (t : Fin cfg0.N) (hz : t.val = 0) (C : Vec F S1x2176 .f32) :
    outL (seqBit (grid0.coords t)) (iblk m c 0 t) (iblk m c 1 t) (iblk m c 3 t) (iblk m c 4 t) (iblk m c 5 t) (Wc m c) C
      = outL (seqBit (grid0.coords t)) (iblk m c 0 t) (iblk m c 1 t) (iblk m c 3 t) (iblk m c 4 t) (iblk m c 5 t) (Wc m c)
        (Cc m c ⟨t.val - 1, lt_of_le_of_lt (Nat.sub_le _ _) t.isLt⟩) := by
  rw [seqBit_first t hz]; exact outL_first ..

/-! ## The invariant between points -/

/-- Before the first point the scratch is at anything; afterwards it holds the rounded weights and the row the point before left. -/
def PhiS (c : Dev nD) : (n : ℕ) → n ≤ cfg0.N → sProp 𝕄
  | 0, _ => Pipeline.ΦA spec0 c
  | n + 1, hn => iprop(iprop(owns (c : Thread nD τ) scM0_0 fullShare (Wc m c) ∗ owns (c : Thread nD τ) scM0_1 fullShare (Cc m c ⟨n, hn⟩)) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- The invariant after a point. -/
theorem PhiS_succ (c : Dev nD) (n : ℕ) (hn : n < cfg0.N) :
    PhiS m c (n + 1) hn = iprop(iprop(owns (c : Thread nD τ) scM0_0 fullShare (Wc m c) ∗ owns (c : Thread nD τ) scM0_1 fullShare (Cc m c ⟨n, hn⟩)) ∗ (∃ r, prngReg c r)) := rfl

/-- The invariant before a later point. -/
theorem PhiS_pos (c : Dev nD) (n : ℕ) (h : n ≤ cfg0.N) (hz : n ≠ 0) :
    PhiS m c n h = iprop(iprop(owns (c : Thread nD τ) scM0_0 fullShare (Wc m c) ∗ owns (c : Thread nD τ) scM0_1 fullShare (Cc m c ⟨n - 1, by omega⟩)) ∗ (∃ r, prngReg c r)) := by
  cases n with
  | zero => exact absurd rfl hz
  | succ n => rfl

/-! ## The pipeline's data -/

/-- The arrays as the region finds them; after a point each input's buffer at its block, the output's at `outC`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outC m c t
    | ⟨_ + 7, h⟩ => absurd h (Nat.not_lt.2 (Nat.le_add_left _ _))
  Φ t := PhiS m c t.val (Nat.le_of_lt_succ t.isLt)
  q _ := fullShare
  owed _ := 0

/-- The arrays the region finds. -/
theorem A_eq (c : Dev nD) (w : Fin cfg0.W) : (dats m 0 c).A w = V m c (Pipeline.arrRef spec0 w) := by
  dsimp only [dats]

/-- The invariant before point `t`, as the data spell it. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What window 0's buffer holds after a point. -/
theorem after0_0 (c : Dev nD) (t : Fin cfg0.N) : (dats m 0 c).after 0 t = iblk m c 0 t := by dsimp only [dats]
/-- What window 1's buffer holds after a point. -/
theorem after0_1 (c : Dev nD) (t : Fin cfg0.N) : (dats m 0 c).after 1 t = iblk m c 1 t := by dsimp only [dats]
/-- What window 2's buffer holds after a point. -/
theorem after0_2 (c : Dev nD) (t : Fin cfg0.N) : (dats m 0 c).after 2 t = iblk m c 2 t := by dsimp only [dats]
/-- What window 3's buffer holds after a point. -/
theorem after0_3 (c : Dev nD) (t : Fin cfg0.N) : (dats m 0 c).after 3 t = iblk m c 3 t := by dsimp only [dats]
/-- What window 4's buffer holds after a point. -/
theorem after0_4 (c : Dev nD) (t : Fin cfg0.N) : (dats m 0 c).after 4 t = iblk m c 4 t := by dsimp only [dats]
/-- What window 5's buffer holds after a point. -/
theorem after0_5 (c : Dev nD) (t : Fin cfg0.N) : (dats m 0 c).after 5 t = iblk m c 5 t := by dsimp only [dats]
/-- What window 6's buffer holds after a point. -/
theorem after0_6 (c : Dev nD) (t : Fin cfg0.N) : (dats m 0 c).after 6 t = outC m c t := by dsimp only [dats]

/-- What window 0's buffer holds before a point. -/
theorem before0_0 (c : Dev nD) (t : Fin cfg0.N) (d) : (dats m 0 c).before 0 t d = iblk m c 0 t :=
  before0_0_of m (dats m 0 c) (A_eq m c 0) (after0_0 m c) t d
/-- What window 1's buffer holds before a point. -/
theorem before0_1 (c : Dev nD) (t : Fin cfg0.N) (d) : (dats m 0 c).before 1 t d = iblk m c 1 t :=
  before0_1_of m (dats m 0 c) (A_eq m c 1) (after0_1 m c) t d
/-- What window 2's buffer holds before a point. -/
theorem before0_2 (c : Dev nD) (t : Fin cfg0.N) (d) : (dats m 0 c).before 2 t d = iblk m c 2 t :=
  before0_2_of m (dats m 0 c) (A_eq m c 2) (after0_2 m c) t d
/-- What window 3's buffer holds before a point. -/
theorem before0_3 (c : Dev nD) (t : Fin cfg0.N) (d) : (dats m 0 c).before 3 t d = iblk m c 3 t :=
  before0_3_of m (dats m 0 c) (A_eq m c 3) (after0_3 m c) t d
/-- What window 4's buffer holds before a point. -/
theorem before0_4 (c : Dev nD) (t : Fin cfg0.N) (d) : (dats m 0 c).before 4 t d = iblk m c 4 t :=
  before0_4_of m (dats m 0 c) (A_eq m c 4) (after0_4 m c) t d
/-- What window 5's buffer holds before a point. -/
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 16000000 in
/-- The body at any point: the first point's run or a later point's, what its stores leave read back as the named contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 32 := lt_of_lt_of_eq t.isLt (show cfg0.N = 32 from N_0)
  by_cases hz : t.val = 0
  ·
    rw [PhiS_castSucc m c t, PhiS_zero m c _ _ hz, PhiA0_eq]
    iintro ⟨⟨⟨HS0, ⟨%xs1, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ _ _ _ _ ((hcond0_0 t).mpr hz) (iblk m c 0 t) (iblk m c 1 t) (iblk m c 2 t) (iblk m c 3 t) (iblk m c 4 t) (iblk m c 5 t) xs1).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%e6, H6⟩, ⟨%es0, HS0⟩, ⟨%es1, HS1⟩⟩
    isplitl [HS0 HS1 Hg]
    · isplitl [HS0 HS1]
      · isplitl [HS0]
        · unfold owns; iexists _; isplitr
          swap; · iexact HS0
          ipureintro; rw [runA_wb]; exact (View.read_writes_eq_canon _ _ _ (cover_wb _)).trans (Wc_first m c t hz).symm
        unfold owns; iexists _; isplitr
        swap; · iexact HS1
        ipureintro; rw [runA_carry]; rw [← Wc_first' m c t hz]; exact View.read_writes_eq_canon _ _ _ (cover_carry _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; rw [runA_out]; rw [← Wc_first' m c t hz, outC_first m c t hz xs1]; exact View.read_writes_eq_canon _ _ _ (cover_out _ _ _ _ _ _ _ _)
  ·
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ _ _ _ _ (fun h => hz ((hcond0_0 t).mp h)) (iblk m c 0 t) (iblk m c 1 t) (iblk m c 2 t) (iblk m c 3 t) (iblk m c 4 t) (iblk m c 5 t) (Wc m c) (Cc m c ⟨t.val - 1, by omega⟩)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%e6, H6⟩, HS0, ⟨%es1, HS1⟩⟩
    isplitl [HS0 HS1 Hg]
    · isplitl [HS0 HS1]
      · isplitl [HS0]
        · iexact HS0
        unfold owns; iexists _; isplitr
        swap; · iexact HS1
        ipureintro; rw [runB_carry]; exact View.read_writes_eq_canon _ _ _ (cover_carry _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; rw [runB_out]; exact View.read_writes_eq_canon _ _ _ (cover_out _ _ _ _ _ _ _ _)

/-- The body table's row at point `t`'s slots is the body as the generated frame kit spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back. -/
theorem hout (c : Dev nD) : (dats m 0 c).Φ (Fin.last cfg0.N) ⊢ Pipeline.ΦA spec0 c := by
  rw [show (dats m 0 c).Φ (Fin.last cfg0.N) = PhiS m c cfg0.N le_rfl from rfl,
    PhiS_pos m c _ _ (by have : cfg0.N = 32 := N_0; omega), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The launch: every weakly fair execution ends with every array as the data says and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := fun r => Pipeline.FramePost cfgs (dats m) 0 (V m) r ∧ r.2.sem = fun _ => 0) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
    (hQ' := fun _ h => h)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) (A_eq m)) (run_main_quiescent m ρ)

end Cert.ProjIdeal.Own

end
-- ==== Proof.P.Spec.lean ====
module
public import proofs.«01_k».proof.Proof.Gen.ProjRefIdeal.Read
public import Idealize.ShloMosaic.Lib.Pipeline.ValueKit
@[expose] public section
set_option maxRecDepth 16384
noncomputable section
open Idealize.ShloMosaic Idealize.ShloMosaic.TcCoe Idealize.SL.Sem
namespace Cert.ProjRefIdeal.Own
open Cert.ProjRefIdeal Cert.ProjRefIdeal.Gen Cert.ProjRefIdeal.Read

variable (X : FVec Ideal S8x2048x1024 .f32) (G : FVec Ideal S1x1024 .f32) (W : FVec Ideal S1x1024x3712 .f32) (M : FVec Ideal S1x2176 .f32)

/-- The normalised input row `s` of sequence `b`. -/
def U (b : Fin 8) (s : Fin 2048) (k : Fin 1024) : EReal :=
  X (ix3 b s k) * Ideal.rsqrt (Ideal.div (∑ l : Fin 1024, X (ix3 b s l) * X (ix3 b s l)) (Ideal.ofBits .f32 0x44800000#32) + Ideal.ofBits .f32 0x358637BD#32) * G (ix2 0 k)

/-- The projection of row `s` of sequence `b`, column `c`. -/
def P (b : Fin 8) (s : Fin 2048) (c : Fin 3712) : EReal := ∑ k : Fin 1024, U X G b s k * W (ix3 0 k c)

/-- The same of the row before, zero where the sequence begins. -/
def prev (b : Fin 8) (s : Fin 2048) (c : Fin 3712) : EReal :=
  if s.val = 0 then 0 else P X G W b ⟨s.val - 1, by omega⟩ c

/-- The token shift: the projection moved towards the row before. -/
def mix (b : Fin 8) (s : Fin 2048) (c : Fin 2176) : EReal :=
  P X G W b s ⟨1536 + c.val, by omega⟩ + M (ix2 0 c) * (prev X G W b s ⟨1536 + c.val, by omega⟩ - P X G W b s ⟨1536 + c.val, by omega⟩)

/-- `p` times its logistic. -/
def silu (p : EReal) : EReal := p * Ideal.div 1 (1 + Ideal.exp (0 - p))

/-- The angle of position `s` and frequency `j`. -/
def ang (s : Fin 2048) (j : Fin 32) : EReal := val_main_v36 (F := Ideal) (ix2 s j)

/-- The angle, read out. -/
theorem ang_eq (s : Fin 2048) (j : Fin 32) : ang s j = FloatOps.sitofp (F := Ideal) .f32 (BitVec.ofNat 32 s.val) *
    Ideal.exp (Ideal.div (-FloatOps.sitofp (F := Ideal) .f32 (BitVec.ofNat 32 j.val)) (Ideal.ofBits .f32 0x42000000#32) * Ideal.ofBits .f32 0x41135D8E#32) := by
  pointwise [ang, val_main_v36, val_main_v35, val_main_v34, val_main_v33, val_main_v32, val_main_v31, val_main_v30, val_main_v29, val_main_v28, val_main_v27, val_main_v26, val_main_v25, val_main_v24, val_main_v0, val_main_cst_2, val_main_cst_3]

/-- The rotation of one head's column `c` (the columns of a head are 64 wide). -/
def rope (b : Fin 8) (s : Fin 2048) (c : Fin 512) : EReal :=
  if h : c.val % 64 < 32 then
    P X G W b s ⟨c.val, by omega⟩ * Ideal.cos (ang s ⟨c.val % 64, h⟩) - P X G W b s ⟨c.val + 32, by omega⟩ * Ideal.sin (ang s ⟨c.val % 64, h⟩)
  else
    P X G W b s ⟨c.val - 32, by omega⟩ * Ideal.sin (ang s ⟨c.val % 64 - 32, by omega⟩) + P X G W b s ⟨c.val, by omega⟩ * Ideal.cos (ang s ⟨c.val % 64 - 32, by omega⟩)

/-- The result's entry of row `s` of sequence `b`, column `c`: rotated queries and keys, values, gates, shifted columns. -/
def out (b : Fin 8) (s : Fin 2048) (c : Fin 3712) : EReal :=
  if h : c.val < 512 then rope X G W b s ⟨c.val, h⟩
  else if c.val < 1024 then P X G W b s c
  else if c.val < 1536 then silu (P X G W b s c)
  else if c.val < 3072 ∨ 3584 ≤ c.val then mix X G W M b s ⟨c.val - 1536, by omega⟩
  else silu (mix X G W M b s ⟨c.val - 1536, by omega⟩)

/-- The projection depends on the column's number alone. -/
theorem P_congr (b : Fin 8) (s : Fin 2048) {c c' : ℕ} (hc : c < 3712) (hc' : c' < 3712) (h : c = c') :
    P X G W b s ⟨c, hc⟩ = P X G W b s ⟨c', hc'⟩ := by subst h; rfl

/-- The reference's normalised input, entry by entry. -/
theorem v14_at (b : Fin 8) (s : Fin 2048) (k : Fin 1024) : val_main_v14 (F := Ideal) X G (ix3 b s k) = U X G b s k := by
  pointwise [val_main_v14, val_main_v13, val_main_v12, val_main_v11, val_main_v10, val_main_v9, val_main_v8, val_main_v7, val_main_v6, val_main_v5, val_main_v4, val_main_v3, val_main_v2, val_main_v1, val_main_cst, val_main_cst_0, val_main_cst_1, U]

/-- The reference's projection, entry by entry. -/
theorem v16_at (b : Fin 8) (s : Fin 2048) (c : Fin 3712) : val_main_v16 (F := Ideal) X G W (ix3 b s c) = P X G W b s c := by
  pointwise [val_main_v16, val_main_v15, P, v14_at]

/-- The reference's rotated queries. -/
theorem v54_at (b : Fin 8) (s : Fin 2048) (c : Fin 256) : val_main_v54 (F := Ideal) X G W (ix3 b s c) = rope X G W b s ⟨c.val, by omega⟩ := by
  pointwise [val_main_v54, val_main_v53, val_main_v52, val_main_v47, val_main_v44, val_main_v46, val_main_v49, val_main_v51, val_main_v41, val_main_v42, val_main_v23, val_main_v19, val_main_v17, val_main_v43, val_main_v45, val_main_v48, val_main_v50, val_main_v38, val_main_v40, val_main_v37, val_main_v39, v16_at, rope, ang]
  by_cases h : c.val % 64 < 32
  · simp only [dif_pos h]
    exact congrArg₂ (fun x y : EReal => x * _ - y * _) rfl (P_congr X G W b s _ _ (by omega))
  · simp only [dif_neg h]
    exact congrArg₂ (fun x y : EReal => x * _ + y * _) (P_congr X G W b s _ _ (by omega)) (P_congr X G W b s _ _ (by omega))

/-- The reference's rotated keys. -/
theorem v86_at (b : Fin 8) (s : Fin 2048) (c : Fin 256) : val_main_v86 (F := Ideal) X G W (ix3 b s c) = rope X G W b s ⟨256 + c.val, by omega⟩ := by
  have h68 : val_main_v68 (F := Ideal) = val_main_v36 (F := Ideal) := rfl
  pointwise [val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, h68, val_main_v55, val_main_v20, val_main_v17, v16_at, rope, ang]
  have hm : (256 + c.val) % 64 = c.val % 64 := by omega
  simp only [hm]
  by_cases h : c.val % 64 < 32
  · simp only [dif_pos h]
    exact congrArg₂ (fun x y : EReal => x * _ - y * _) rfl (P_congr X G W b s _ _ (by omega))
  · simp only [dif_neg h]
    exact congrArg₂ (fun x y : EReal => x * _ + y * _) (P_congr X G W b s _ _ (by omega)) (P_congr X G W b s _ _ (by omega))

/-- The reference's values of the retention heads. -/
theorem v21_at (b : Fin 8) (s : Fin 2048) (c : Fin 512) : val_main_v21 (F := Ideal) X G W (ix3 b s c) = P X G W b s ⟨512 + c.val, by omega⟩ := by
  pointwise [val_main_v21, val_main_v17, v16_at]

/-- The reference's gates of the retention heads. -/
theorem v98_at (b : Fin 8) (s : Fin 2048) (c : Fin 512) : val_main_v98 (F := Ideal) X G W (ix3 b s c) = silu (P X G W b s ⟨1024 + c.val, by omega⟩) := by
  pointwise [val_main_v98, val_main_call1_v5, val_main_call1_v4, val_main_call1_v3, val_main_call1_v2, val_main_call1_v1, val_main_call1_v0, val_main_call1_cst, val_main_call1_cst_0, val_main_v22, val_main_v17, v16_at, silu, zero_sub]

/-- The reference's token shift. -/
theorem v94_at (b : Fin 8) (s : Fin 2048) (c : Fin 2176) : val_main_v94 (F := Ideal) X G W M (ix3 b s c) = mix X G W M b s c := by
  pointwise [val_main_v94, val_main_v93, val_main_v92, val_main_v91, val_main_v90, val_main_v89, val_main_v88, val_main_v87, val_main_v18, v16_at, mix, prev, val_main_call0_v0]
  by_cases h : s.val = 0
  · rw [dif_neg (by omega), if_pos h]
    have hz : (FloatOps.sitofp (F := Ideal) FTy.f32 (val_main_c (F := Ideal) (Shape.Idx.first h_S_))) = (0 : EReal) := by
      show ((((0#32 : BitVec 32).toInt : ℤ) : ℝ) : EReal) = 0
      simp
    rw [hz]
  · rw [dif_pos (by omega), if_neg h]

/-- The reference's gates of the RWKV heads. -/
theorem v99_at (b : Fin 8) (s : Fin 2048) (c : Fin 512) : val_main_v99 (F := Ideal) X G W M (ix3 b s c) = silu (mix X G W M b s ⟨1536 + c.val, by omega⟩) := by
  pointwise [val_main_v99, val_main_call2_v5, val_main_call2_v4, val_main_call2_v3, val_main_call2_v2, val_main_call2_v1, val_main_call2_v0, val_main_call2_cst, val_main_call2_cst_0, val_main_v96, v94_at, silu, zero_sub]

/-- The reference's array before its last reshape is `out`. -/
theorem v100_at (b : Fin 8) (s : Fin 2048) (c : Fin 3712) : val_main_v100 (F := Ideal) X G W M (ix3 b s c) = out X G W M b s c := by
  pointwise [val_main_v100, v54_at, v86_at, v21_at, v98_at, val_main_v95, v94_at, v99_at, val_main_v97, out]
  by_cases h1 : c.val < 256
  · simp only [dif_pos h1, dif_pos (show c.val < 512 by omega)]
  rw [dif_neg h1]
  by_cases h2 : c.val - 256 < 256
  · rw [dif_pos h2, dif_pos (show c.val < 512 by omega)]
    exact congrArg (rope X G W b s) (Fin.ext (by show 256 + (c.val - 256) = c.val; omega))
  rw [dif_neg h2, dif_neg (show ¬ c.val < 512 by omega)]
  by_cases h3 : c.val - 256 - 256 < 512
  · rw [dif_pos h3, if_pos (show c.val < 1024 by omega)]
    exact congrArg (P X G W b s) (Fin.ext (by show 512 + (c.val - 256 - 256) = c.val; omega))
  rw [dif_neg h3, if_neg (show ¬ c.val < 1024 by omega)]
  by_cases h4 : c.val - 256 - 256 - 512 < 512
  · rw [dif_pos h4, if_pos (show c.val < 1536 by omega)]
    exact congrArg (fun i => silu (P X G W b s i)) (Fin.ext (by show 1024 + (c.val - 256 - 256 - 512) = c.val; omega))
  rw [dif_neg h4, if_neg (show ¬ c.val < 1536 by omega)]
  by_cases h5 : c.val - 256 - 256 - 512 - 512 < 1536
  · rw [dif_pos h5, if_pos (show c.val < 3072 ∨ 3584 ≤ c.val by omega)]
    exact congrArg (mix X G W M b s) (Fin.ext (by show c.val - 256 - 256 - 512 - 512 = c.val - 1536; omega))
  rw [dif_neg h5]
  by_cases h6 : c.val - 256 - 256 - 512 - 512 - 1536 < 512
  · rw [dif_pos h6, if_neg (show ¬ (c.val < 3072 ∨ 3584 ≤ c.val) by omega)]
    exact congrArg (fun i => silu (mix X G W M b s i)) (Fin.ext (by show 1536 + (c.val - 256 - 256 - 512 - 512 - 1536) = c.val - 1536; omega))
  rw [dif_neg h6, if_pos (show c.val < 3072 ∨ 3584 ≤ c.val by omega)]
  exact congrArg (mix X G W M b s) (Fin.ext (by show 2048 + (c.val - 256 - 256 - 512 - 512 - 1536 - 512) = c.val - 1536; omega))

/-- The reference's result is `out` at the row's sequence and position. -/
theorem v101_at (i : Fin 16384) (c : Fin 3712) : val_main_v101 (F := Ideal) X G W M (ix2 i c) = out X G W M ⟨i.val / 2048, by omega⟩ ⟨i.val % 2048, by omega⟩ c := by
  pointwise [val_main_v101, v100_at]
end Cert.ProjRefIdeal.Own
end
-- ==== Proof.P.BlockProjIdeal.lean ====
module
public import proofs.«01_k».proof.Proof.P.FrameProjIdeal
public import proofs.«01_k».proof.Proof.P.Spec
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.ProjIdeal.Own
open Cert.ProjIdeal Cert.ProjIdeal.Gen
variable (m : (ℓ : Loc nD τ sig) → Buf (Elt Ideal) ℓ) (c : Dev nD)

/-- The input array. -/
abbrev AX : FVec Ideal S8x2048x1024 .f32 := m ((c : Thread nD τ).loc main_arg0)
/-- The norm's weights. -/
abbrev AG : FVec Ideal S1x1024 .f32 := m ((c : Thread nD τ).loc main_arg1)
/-- The projection's weights. -/
abbrev AW : FVec Ideal S1x1024x3712 .f32 := m ((c : Thread nD τ).loc main_arg2)
/-- The shift's weights. -/
abbrev AM : FVec Ideal S1x2176 .f32 := m ((c : Thread nD τ).loc main_arg3)

/-- The windows' index maps at every grid point. -/
theorem idx : ∀ t : Fin cfg0.N, win0_0.index t = ![t.val, 0] ∧ win0_1.index t = ![0, 0] ∧ win0_2.index t = ![0, 0]
    ∧ win0_3.index t = ![t.val % 4, 0] ∧ win0_4.index t = ![t.val % 4, 0] ∧ win0_5.index t = ![0, 0] ∧ win0_6.index t = ![t.val, 0] :=
  (by decide +kernel : ∀ t : Fin grid0.N, _)

/-- The grid has 32 points. -/
theorem tlt (t : Fin cfg0.N) : t.val < 32 := lt_of_lt_of_eq t.isLt N_0

/-- The sequence of grid point `t`. -/
def seq (t : Fin cfg0.N) : Fin 8 := ⟨t.val / 4, by have := tlt t; omega⟩
/-- The position of row `r` of grid point `t`'s block in its sequence. -/
def pos (t : Fin cfg0.N) (r : Fin 512) : Fin 2048 := ⟨t.val % 4 * 512 + r.val, by omega⟩

/-- The block of input rows. -/
theorem blk0 (t : Fin cfg0.N) (r : Fin 512) (k : Fin 1024) :
    (show FVec Ideal S512x1024 .f32 from iblk m c 0 t) (ix2 r k) = AX m c (ix3 (seq t) (pos t r) k) := by
  blk_simp [iblk, idx t]
  entry_read
  pointwise
  blk_ext [idx t, seq, pos]

/-- The norm's weights as every point is given them. -/
theorem blk1 (t : Fin cfg0.N) (k : Fin 1024) :
    (show FVec Ideal S1x1024 .f32 from iblk m c 1 t) (ix2 0 k) = AG m c (ix2 0 k) := by
  blk_simp [iblk, idx t]
  entry_read
  pointwise
  blk_ext [idx t]

/-- The projection's weights as every point is given them. -/
theorem blk2 (t : Fin cfg0.N) (k : Fin 1024) (l : Fin 3712) :
    (show FVec Ideal S1024x3712 .f32 from iblk m c 2 t) (ix2 k l) = AW m c (ix3 0 k l) := by
  blk_simp [iblk, idx t]
  entry_read
  pointwise
  blk_ext [idx t]

/-- The shift's weights as every point is given them. -/
theorem blk5 (t : Fin cfg0.N) (l : Fin 2176) :
    (show FVec Ideal S1x2176 .f32 from iblk m c 5 t) (ix2 0 l) = AM m c (ix2 0 l) := by
  blk_simp [iblk, idx t]
  entry_read
  pointwise
  blk_ext [idx t]

/-- The cosine table's block. -/
theorem blk3 (t : Fin cfg0.N) (r : Fin 512) (l : Fin 128) :
    (show FVec Ideal S512x128 .f32 from iblk m c 3 t) (ix2 r l) = Ideal.cos (ProjRefIdeal.Own.ang (pos t r) ⟨l.val % 32, by omega⟩) := by
  rw [ProjRefIdeal.Own.ang_eq]
  blk_simp [iblk, idx t]
  entry_read
  pointwise
  blk_simp [idx t, pos]
  by_cases h : l.val % 64 < 32
  · have e : l.val % 32 = l.val % 64 := by omega
    simp only [h, e, ↓reduceDIte, ↓reduceIte]
  · have e : l.val % 32 = l.val % 64 - 32 := by omega
    simp only [h, e, ↓reduceDIte, ↓reduceIte]

/-- The signed sine table's block. -/
theorem blk4 (t : Fin cfg0.N) (r : Fin 512) (l : Fin 128) :
    (show FVec Ideal S512x128 .f32 from iblk m c 4 t) (ix2 r l) = if l.val % 64 < 32 then -Ideal.sin (ProjRefIdeal.Own.ang (pos t r) ⟨l.val % 32, by omega⟩) else Ideal.sin (ProjRefIdeal.Own.ang (pos t r) ⟨l.val % 32, by omega⟩) := by
  rw [ProjRefIdeal.Own.ang_eq]
  blk_simp [iblk, idx t]
  entry_read
  pointwise
  blk_simp [idx t, pos]
  by_cases h : l.val % 64 < 32
  · have e : l.val % 32 = l.val % 64 := by omega
    simp only [h, e, ↓reduceDIte, ↓reduceIte]
  · have e : l.val % 32 = l.val % 64 - 32 := by omega
    simp only [h, e, ↓reduceDIte, ↓reduceIte]
end Cert.ProjIdeal.Own
end
-- ==== Proof.P.ValueProjIdeal.lean ====
module
public import proofs.«01_k».proof.Proof.P.BlockProjIdeal
@[expose] public section
set_option maxRecDepth 16384
noncomputable section
open Idealize.ShloMosaic Idealize.ShloMosaic.TcCoe Idealize.SL.Sem
open Idealize.ShloMosaic.Pipeline (Dat)
namespace Cert.ProjIdeal.Own
open Cert.ProjIdeal Cert.ProjIdeal.Gen
variable (m : (ℓ : Loc nD τ sig) → Buf (Elt Ideal) ℓ) (c : Dev nD)

/-- The weights in scratch are the weights given. -/
theorem wc_at (k : Fin 1024) (l : Fin 3712) : Wc m c (ix2 k l) = AW m c (ix3 0 k l) := by
  rw [← blk2 m c ⟨0, by rw [show cfg0.N = 32 from N_0]; omega⟩ k l]
  unfold Wc wb wbL
  rw [View.canon_unit_zero (h := by funext a; fin_cases a <;> rfl)]
  pointwise [k0_pay3]

/-- The normalised rows of a block, over the rows it holds. -/
theorem u_pure (X : FVec Ideal S512x1024 .f32) (G : FVec Ideal S1x1024 .f32) (X' : FVec Ideal S8x2048x1024 .f32) (G' : FVec Ideal S1x1024 .f32)
    (b : Fin 8) (s : Fin 2048) (r : Fin 512) (h0 : ∀ k : Fin 1024, X (ix2 r k) = X' (ix3 b s k)) (h1 : ∀ k : Fin 1024, G (ix2 0 k) = G' (ix2 0 k)) (k : Fin 1024) :
    uA (F := Ideal) X G (ix2 r k) = ProjRefIdeal.Own.U X' G' b s k := by
  unfold uA
  pointwise [k0_pay4, ProjRefIdeal.Own.U, h0, h1]

/-- The normalised rows of a block. -/
theorem u_at (t : Fin cfg0.N) (r : Fin 512) (k : Fin 1024) :
    uA (F := Ideal) (iblk m c 0 t) (iblk m c 1 t) (ix2 r k) = ProjRefIdeal.Own.U (AX m c) (AG m c) (seq t) (pos t r) k :=
  u_pure _ _ _ _ _ _ r (blk0 m c t r) (blk1 m c t) k

/-- A projection's sum, named. -/
theorem P_fold (X : FVec Ideal S8x2048x1024 .f32) (G : FVec Ideal S1x1024 .f32) (W : FVec Ideal S1x1024x3712 .f32) (b : Fin 8) (s : Fin 2048) (l : Fin 3712) :
    (∑ k : Fin 1024, ProjRefIdeal.Own.U X G b s k * W (ix3 0 k l)) = ProjRefIdeal.Own.P X G W b s l := rfl

/-- The carried row after point `t`: the last row's projections. -/
theorem cc_at (t : Fin cfg0.N) (l : Fin 2176) :
    Cc m c t (ix2 0 l) = ProjRefIdeal.Own.P (AX m c) (AG m c) (AW m c) (seq t) (pos t 511) ⟨1536 + l.val, by omega⟩ := by
  unfold Cc carryL
  canon_tiles x h using cover_carry (F := Ideal) (iblk m c 0 t) (iblk m c 1 t) (Wc m c) (ix2 0 l)
  all_goals idx_vars x
  all_goals pointwise [k0_pay1, k0_pay25, k0_pay21, k0_pay22, k0_pay18, k0_pay19, k0_pay13, k0_pay16, k0_pay15, k0_pay10, k0_pay11, k0_pay8, u_at, wc_at, P_fold]
  all_goals exact ProjRefIdeal.Own.P_congr (AX m c) (AG m c) (AW m c) _ _ _ _ (by omega)

/-- The grid points at which a sequence begins. -/
theorem seqBit_val : ∀ t : Fin cfg0.N, seqBit (grid0.coords t) = if t.val % 4 = 0 then 1#1 else 0#1 :=
  (by decide +kernel : ∀ t : Fin grid0.N, seqBit (grid0.coords t) = if t.val % 4 = 0 then 1#1 else 0#1)

/-- What stands for the row before: the previous row of the block; at a block's first row the carried row, or zero where a sequence begins. -/
theorem prev_at (X : FVec Ideal S8x2048x1024 .f32) (G : FVec Ideal S1x1024 .f32) (W : FVec Ideal S1x1024x3712 .f32) (t t' : Fin cfg0.N) (ht : t'.val = t.val - 1) (r : Fin 512) (l : Fin 3712) (h : (r.val + 512 - 1) % 512 < 512) :
    Scalar.select (IntOp.cmpi .eq (BitVec.ofNat 32 r.val) 0#32)
      (Scalar.select (seqBit (grid0.coords t)) (0 : EReal) (ProjRefIdeal.Own.P X G W (seq t') (pos t' 511) l))
      (ProjRefIdeal.Own.P X G W (seq t) (pos t ⟨(r.val + 512 - 1) % 512, h⟩) l) = ProjRefIdeal.Own.prev X G W (seq t) (pos t r) l := by
  rw [seqBit_val]
  unfold ProjRefIdeal.Own.prev
  by_cases hr : r.val = 0
  · have e : IntOp.cmpi .eq (BitVec.ofNat 32 r.val) 0#32 = 1#1 := by rw [hr]; rfl
    rw [e]
    by_cases h4 : t.val % 4 = 0
    · rw [if_pos h4, if_pos (show (pos t r).val = 0 by show t.val % 4 * 512 + r.val = 0; omega)]
      rfl
    · rw [if_neg h4, if_neg (show ¬ (pos t r).val = 0 by show ¬ t.val % 4 * 512 + r.val = 0; omega)]
      have e1 : seq t' = seq t := Fin.ext (by show t'.val / 4 = t.val / 4; omega)
      have e2 : pos t' 511 = ⟨(pos t r).val - 1, by omega⟩ := Fin.ext (by show t'.val % 4 * 512 + 511 = t.val % 4 * 512 + r.val - 1; omega)
      rw [e1, e2]; rfl
  · have e : IntOp.cmpi .eq (BitVec.ofNat 32 r.val) 0#32 = 0#1 := by
      have : (BitVec.ofNat 32 r.val == 0#32) = false := by
        rw [beq_eq_false_iff_ne]; intro hh
        have := congrArg BitVec.toNat hh
        simp at this; omega
      show BitVec.ofBool (BitVec.ofNat 32 r.val == 0#32) = 0#1
      rw [this]; rfl
    rw [e, if_neg (show ¬ (pos t r).val = 0 by show ¬ t.val % 4 * 512 + r.val = 0; omega)]
    have e2 : pos t ⟨(r.val + 512 - 1) % 512, h⟩ = ⟨(pos t r).val - 1, by omega⟩ :=
      Fin.ext (by show t.val % 4 * 512 + (r.val + 512 - 1) % 512 = t.val % 4 * 512 + r.val - 1; omega)
    rw [e2]; rfl

/-- A shifted column as a block computes it: the columns' number given three ways. -/
theorem mix_at (X : FVec Ideal S8x2048x1024 .f32) (G : FVec Ideal S1x1024 .f32) (W : FVec Ideal S1x1024x3712 .f32) (M : FVec Ideal S1x2176 .f32)
    (t t' : Fin cfg0.N) (ht : t'.val = t.val - 1) (r : Fin 512) (h : (r.val + 512 - 1) % 512 < 512)
    (a b : Fin 3712) (n n' : Fin 2176) (ha : a.val = 1536 + n.val) (hb : b.val = 1536 + n.val) (hn : n'.val = n.val) (μ : EReal) (hμ : μ = M (ix2 0 n)) :
    ProjRefIdeal.Own.P X G W (seq t) (pos t r) a + μ * (Scalar.select (IntOp.cmpi .eq (BitVec.ofNat 32 r.val) 0#32)
      (Scalar.select (seqBit (grid0.coords t)) (0 : EReal) (ProjRefIdeal.Own.P X G W (seq t') (pos t' 511) b))
      (ProjRefIdeal.Own.P X G W (seq t) (pos t ⟨(r.val + 512 - 1) % 512, h⟩) a) - ProjRefIdeal.Own.P X G W (seq t) (pos t r) a)
      = ProjRefIdeal.Own.mix X G W M (seq t) (pos t r) n' := by
  obtain rfl : a = b := Fin.ext (by omega)
  obtain rfl : n' = n := Fin.ext hn
  obtain rfl : a = ⟨1536 + n'.val, Nat.lt_of_lt_of_le (Nat.add_lt_add_left n'.isLt 1536) (by decide)⟩ := Fin.ext ha
  rw [prev_at X G W t t' ht r _ h, hμ]
  rfl

/-- Four copies of a table side by side. -/
theorem ladder (T : FVec Ideal S512x128 .f32) (r x : Fin 512) :
    (if h : x.val < 128 then T (ix2 r ⟨x.val, h⟩) else if h' : x.val - 128 < 128 then T (ix2 r ⟨x.val - 128, h'⟩)
      else if h'' : x.val - 128 - 128 < 128 then T (ix2 r ⟨x.val - 128 - 128, h''⟩) else T (ix2 r ⟨x.val - 128 - 128 - 128, by omega⟩))
      = T (ix2 r ⟨x.val % 128, by omega⟩) := by
  have key : ∀ (a : ℕ) (ha : a < 128), a = x.val % 128 → T (ix2 r ⟨a, ha⟩) = T (ix2 r ⟨x.val % 128, by omega⟩) := by
    rintro a ha rfl; rfl
  split_ifs with h h' h''
  · exact key _ _ (by omega)
  · exact key _ _ (by omega)
  · exact key _ _ (by omega)
  · exact key _ _ (by omega)

/-- The lanes of a head's first half. -/
theorem lane : ∀ x : Fin 512, IntOp.cmpi .slt (IntOp.andi (BitVec.ofNat 32 x.val) 63#32) 32#32 = if x.val % 64 < 32 then 1#1 else 0#1 := by
  decide +kernel

/-- A rotated column as a block computes it. -/
theorem rope_at (X : FVec Ideal S8x2048x1024 .f32) (G : FVec Ideal S1x1024 .f32) (W : FVec Ideal S1x1024x3712 .f32) (T3 T4 : FVec Ideal S512x128 .f32)
    (t : Fin cfg0.N) (r x : Fin 512) (h1 : (x.val + 512 - 480) % 512 < 3712) (h2 : (x.val + 512 - 32) % 512 < 3712)
    (h3 : ∀ l : Fin 128, T3 (ix2 r l) = Ideal.cos (ProjRefIdeal.Own.ang (pos t r) ⟨l.val % 32, by omega⟩))
    (h4 : ∀ l : Fin 128, T4 (ix2 r l) = if l.val % 64 < 32 then -Ideal.sin (ProjRefIdeal.Own.ang (pos t r) ⟨l.val % 32, by omega⟩) else Ideal.sin (ProjRefIdeal.Own.ang (pos t r) ⟨l.val % 32, by omega⟩)) :
    ProjRefIdeal.Own.P X G W (seq t) (pos t r) ⟨x.val, by omega⟩ * (if h : x.val < 128 then T3 (ix2 r ⟨x.val, h⟩) else if h' : x.val - 128 < 128 then T3 (ix2 r ⟨x.val - 128, h'⟩)
      else if h'' : x.val - 128 - 128 < 128 then T3 (ix2 r ⟨x.val - 128 - 128, h''⟩) else T3 (ix2 r ⟨x.val - 128 - 128 - 128, by omega⟩))
    + Scalar.select (IntOp.cmpi .slt (IntOp.andi (BitVec.ofNat 32 x.val) 63#32) 32#32)
        (ProjRefIdeal.Own.P X G W (seq t) (pos t r) ⟨(x.val + 512 - 480) % 512, h1⟩) (ProjRefIdeal.Own.P X G W (seq t) (pos t r) ⟨(x.val + 512 - 32) % 512, h2⟩)
      * (if h : x.val < 128 then T4 (ix2 r ⟨x.val, h⟩) else if h' : x.val - 128 < 128 then T4 (ix2 r ⟨x.val - 128, h'⟩)
      else if h'' : x.val - 128 - 128 < 128 then T4 (ix2 r ⟨x.val - 128 - 128, h''⟩) else T4 (ix2 r ⟨x.val - 128 - 128 - 128, by omega⟩))
    = ProjRefIdeal.Own.rope X G W (seq t) (pos t r) x := by
  rw [ladder T3 r x, ladder T4 r x, lane, h3, h4]
  have e64 : x.val % 128 % 64 = x.val % 64 := by omega
  unfold ProjRefIdeal.Own.rope
  by_cases h : x.val % 64 < 32
  · have e32 : (⟨x.val % 128 % 32, by omega⟩ : Fin 32) = ⟨x.val % 64, h⟩ := Fin.ext (by show x.val % 128 % 32 = x.val % 64; omega)
    rw [if_pos h, dif_pos h, if_pos (show x.val % 128 % 64 < 32 by omega), e32]
    rw [mul_neg, ← sub_eq_add_neg]
    exact congrArg (fun z : EReal => _ - z * _) (ProjRefIdeal.Own.P_congr X G W _ _ _ _ (by omega))
  · have e32 : (⟨x.val % 128 % 32, by omega⟩ : Fin 32) = ⟨x.val % 64 - 32, by omega⟩ := Fin.ext (by show x.val % 128 % 32 = x.val % 64 - 32; omega)
    rw [if_neg h, dif_neg h, if_neg (show ¬ x.val % 128 % 64 < 32 by omega), e32, add_comm]
    exact congrArg (fun z : EReal => z * _ + _) (ProjRefIdeal.Own.P_congr X G W _ _ _ _ (by omega))

set_option maxHeartbeats 600000 in
/-- What the body stores at row `r`, column `l` of point `t`'s block is the result's entry there. -/
theorem out_at (t : Fin cfg0.N) (r : Fin 512) (l : Fin 3712) :
    outC m c t (ix2 r l) = ProjRefIdeal.Own.out (AX m c) (AG m c) (AW m c) (AM m c) (seq t) (pos t r) l := by
  unfold outC outL
  canon_tiles x h using cover_out (F := Ideal) (seqBit (grid0.coords t)) (iblk m c 0 t) (iblk m c 1 t) (iblk m c 3 t) (iblk m c 4 t) (iblk m c 5 t) (Wc m c)
    (Cc m c ⟨t.val - 1, lt_of_le_of_lt (Nat.sub_le _ _) t.isLt⟩) (ix2 r l)
  all_goals idx_vars x
  all_goals pointwise [k0_pay2, k0_pay24, k0_pay23, k0_pay20, k0_pay17, k0_pay14, k0_pay12, k0_pay9, k0_pay7, k0_pay21, k0_pay22, k0_pay18, k0_pay19, k0_pay13, k0_pay16, k0_pay15, k0_pay10, k0_pay11, k0_pay8, u_at, wc_at, cc_at]
  all_goals obtain rfl : r = x0 := Fin.ext h0
  all_goals unfold ProjRefIdeal.Own.out
  · rw [dif_neg (show ¬ l.val < 512 by omega), if_neg (by omega), if_neg (by omega), if_pos (by omega)]
    exact mix_at _ _ _ (AM m c) t _ rfl r _ _ _ ⟨2048 + x1.val, by omega⟩ _ (by show 3584 + x1.val = 1536 + (2048 + x1.val); omega) rfl (by show l.val - 1536 = 2048 + x1.val; omega) _ (blk5 m c t _)
  · rw [dif_neg (show ¬ l.val < 512 by omega), if_neg (by omega), if_neg (by omega), if_neg (by omega)]
    exact congrArg ProjRefIdeal.Own.silu (mix_at _ _ _ (AM m c) t _ rfl r _ _ _ ⟨1536 + x1.val, by omega⟩ _ (by show 3072 + x1.val = 1536 + (1536 + x1.val); omega) rfl (by show l.val - 1536 = 1536 + x1.val; omega) _ (blk5 m c t _))
  · rw [dif_neg (show ¬ l.val < 512 by omega), if_neg (by omega), if_neg (by omega), if_pos (by omega)]
    exact mix_at _ _ _ (AM m c) t _ rfl r _ _ _ ⟨1024 + x1.val, by omega⟩ _ (by show 2560 + x1.val = 1536 + (1024 + x1.val); omega) rfl (by show l.val - 1536 = 1024 + x1.val; omega) _ (blk5 m c t _)
  · rw [dif_neg (show ¬ l.val < 512 by omega), if_neg (by omega), if_neg (by omega), if_pos (by omega)]
    exact mix_at _ _ _ (AM m c) t _ rfl r _ _ _ ⟨512 + x1.val, by omega⟩ _ (by show 2048 + x1.val = 1536 + (512 + x1.val); omega) rfl (by show l.val - 1536 = 512 + x1.val; omega) _ (blk5 m c t _)
  · rw [dif_neg (show ¬ l.val < 512 by omega), if_neg (by omega), if_neg (by omega), if_pos (by omega)]
    exact mix_at _ _ _ (AM m c) t _ rfl r _ _ _ ⟨x1.val, by omega⟩ _ (by show 1536 + x1.val = 1536 + x1.val; omega) rfl (by show l.val - 1536 = x1.val; omega) _ (blk5 m c t _)
  · rw [dif_neg (show ¬ l.val < 512 by omega), if_neg (by omega), if_pos (by omega)]
    exact congrArg ProjRefIdeal.Own.silu (ProjRefIdeal.Own.P_congr (AX m c) (AG m c) (AW m c) (seq t) (pos t r) (c := 1024 + x1.val) (c' := l.val) (by omega) l.isLt (by omega))
  · rw [dif_neg (show ¬ l.val < 512 by omega), if_pos (by omega)]
    exact ProjRefIdeal.Own.P_congr (AX m c) (AG m c) (AW m c) (seq t) (pos t r) (c := 512 + x1.val) (c' := l.val) (by omega) l.isLt (by omega)
  · rw [dif_pos (show l.val < 512 by omega)]
    have e : (⟨l.val, by omega⟩ : Fin 512) = x1 := Fin.ext h1
    refine Eq.trans ?_ (congrArg (ProjRefIdeal.Own.rope (AX m c) (AG m c) (AW m c) (seq t) (pos t r)) e.symm)
    have key := rope_at (AX m c) (AG m c) (AW m c) (iblk m c 3 t) (iblk m c 4 t) t r x1 (by omega) (by omega) (blk3 m c t r) (blk4 m c t r)
    simp only [ProjRefIdeal.Own.P] at key
    exact key

/-- The result array after the run. -/
theorem final : (dats m 0 c).arrAt 6 (cfgs 0).N
    = ProjRefIdeal.Read.val_main_v101 (F := Ideal) (AX m c) (AG m c) (AW m c) (AM m c) := by
  refine (dats m 0 c).arrAt_eq_of_covers 6 _ (by decide +kernel) fun t _ y => ?_
  blk_simp
  rw [after0_6]
  have hy : y = ix2 (⟨(y 0).val, (y 0).isLt⟩ : Fin 512) (⟨(y 1).val, (y 1).isLt⟩ : Fin 3712) := by
    funext a; match a with | ⟨0, _⟩ => rfl | ⟨1, _⟩ => rfl
  generalize (⟨(y 0).val, (y 0).isLt⟩ : Fin 512) = r at hy
  generalize (⟨(y 1).val, (y 1).isLt⟩ : Fin 3712) = l at hy
  subst hy
  have e : (win0_6.blk t).view.emb (ix2 r l) = (ix2 (⟨512 * t.val + r.val, by have := tlt t; omega⟩ : Fin 16384) l : Cert.ProjRefIdeal.S16384x3712.Idx) := by
    blk_ext [idx t]
  rw [e]
  refine (out_at m c t r l).trans (Eq.trans ?_ (ProjRefIdeal.Own.v101_at _ _ _ _ _ _).symm)
  have hs : seq t = ⟨(512 * t.val + r.val) / 2048, by have := tlt t; omega⟩ := Fin.ext (by show t.val / 4 = (512 * t.val + r.val) / 2048; omega)
  have hp : pos t r = ⟨(512 * t.val + r.val) % 2048, by omega⟩ := Fin.ext (by show t.val % 4 * 512 + r.val = (512 * t.val + r.val) % 2048; omega)
  rw [hs, hp]
end Cert.ProjIdeal.Own
end
-- ==== Proof.lean ====
module

public import proofs.«01_k».proof.Defs
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Mixers
public import proofs.«01_k».proof.Proof.Gen.Mixers.Skeleton
public import proofs.«01_k».proof.Proof.Gen.Mixers.Launch
public import proofs.«01_k».proof.Proof.Gen.Mixers.Points
public import proofs.«01_k».proof.Proof.Gen.Mixers.Frame
public import proofs.«01_k».proof.Proof.Gen.MixersIdeal
public import proofs.«01_k».proof.Proof.Gen.MixersIdeal.Skeleton
public import proofs.«01_k».proof.Proof.Gen.MixersIdeal.Launch
public import proofs.«01_k».proof.Proof.Gen.MixersIdeal.Points
public import proofs.«01_k».proof.Proof.Gen.MixersIdeal.Frame
public import proofs.«01_k».proof.Proof.Gen.RetentionRefIdeal
public import proofs.«01_k».proof.Proof.Gen.RetentionRefIdeal.Run
public import proofs.«01_k».proof.Proof.Gen.On_retention_columns
public import proofs.«01_k».proof.Proof.P.Cmp
public import proofs.«01_k».proof.Proof.P.InValue
public import proofs.«01_k».proof.Proof.P.OutValue
public import proofs.«01_k».proof.Proof.P.FrameProj
public import proofs.«01_k».proof.Proof.P.ValueProjIdeal
public import Idealize.ShloMosaic.Adequacy
public import Idealize.ShloMosaic.Init

@[expose] public section

noncomputable section

namespace Cert.Proof

open Idealize.ShloMosaic Idealize.SL.Sem Cert.Proj

/-- The reference's run leaves its arguments unchanged; it declares no semaphore. -/
theorem frame_projRef : Cert.quiescent_ProjRefIdeal := by
  intro m ρ _
  exact (θ_run Cert.ProjRefIdeal.defs _ _).mono (fun r h => ⟨fun c => (h c).2, sem_eq_zero_of_no_sems (by decide) r.2⟩)
    (Cert.ProjRefIdeal.Value.run m ρ)

/-- The projection kernel and its reference leave the same array, whatever the arguments hold. -/
theorem algebraic_proj : Cert.algebraic_ProjIdeal_ProjRefIdeal := by
  pair_intro
  · run_from Cert.ProjIdeal.Own.run_main m g
  · run_from Cert.ProjRefIdeal.Value.run m' g'
    rw [Cert.ProjRefIdeal.Read.val_main_v101_eq, (hagree c).1, (hagree c).2.1, (hagree c).2.2.1, (hagree c).2.2.2]
    exact (Cert.ProjIdeal.Own.final m c).symm

/-- The reference of v01's input projection leaves its arguments unchanged; it declares no semaphore. -/
theorem frame_inProjRef : Cert.quiescent_InProjRefIdeal := by
  intro m ρ _
  exact (θ_run Cert.InProjRefIdeal.defs _ _).mono (fun r h => ⟨fun c => (h c).2, sem_eq_zero_of_no_sems (by decide) r.2⟩)
    (Cert.InProjRefIdeal.Value.run m ρ)

/-- The reference of v01's output projection leaves its arguments unchanged; it declares no semaphore. -/
theorem frame_outProjRef : Cert.quiescent_OutProjRefIdeal := by
  intro m ρ _
  exact (θ_run Cert.OutProjRefIdeal.defs _ _).mono (fun r h => ⟨fun c => (h c).2, sem_eq_zero_of_no_sems (by decide) r.2⟩)
    (Cert.OutProjRefIdeal.Value.run m ρ)

/-- v01's input projection and its reference leave the same array, whatever the arguments hold. -/
theorem algebraic_inProj : Cert.algebraic_InProjIdeal_InProjRefIdeal := by
  pair_intro
  · run_from Cert.InProjIdeal.Gen.run_main m g
  · run_from Cert.InProjRefIdeal.Value.run m' g'
    rw [Cert.InProjRefIdeal.Read.val_main_v16_eq]
    exact (Cert.InProjIdeal.Own.final m c).symm

/-- v01's output projection and its reference leave the same array, whatever the arguments hold. -/
theorem algebraic_outProj : Cert.algebraic_OutProjIdeal_OutProjRefIdeal := by
  pair_intro
  · run_from Cert.OutProjIdeal.Gen.run_main m g
  · run_from Cert.OutProjRefIdeal.Value.run m' g'
    rw [Cert.OutProjRefIdeal.Read.val_main_v17_eq]
    exact (Cert.OutProjIdeal.Own.final m c).symm

/-- The named floor of the norm of the keys rounds to the literal of the body. -/
theorem preserves_mixers : Cert.preserves_Mixers_MixersIdeal :=
  IdealRules.named_const.statement Cert.MixersIdeal.κ "floor" .f32 0x179ABE15#32 _ rfl

/-- The reference of the retention leaves its arguments unchanged; it declares no semaphore. -/
theorem frame_retentionRef : Cert.quiescent_RetentionRefIdeal := by
  intro m ρ _
  exact (θ_run Cert.RetentionRefIdeal.defs _ _).mono (fun r h => ⟨fun c => (h c).2, sem_eq_zero_of_no_sems (by decide) r.2⟩)
    (Cert.RetentionRefIdeal.Value.run m ρ)

/-- The mask marks only columns of the first head group. -/
theorem retention_mask (a0 a1 a2 a3 a4 a5 a6 a7 a8 a9 a10 a11) (i : (⟨3, ![8, 2048, 1024]⟩ : Shape).Idx)
    (h : Cert.On_retention_columns.fn (F := Ideal) a0 a1 a2 a3 a4 a5 a6 a7 a8 a9 a10 a11 i = 1#1) : (i 2).val < 512 := by
  have key : ∀ j : Fin 1024, IntOp.cmpi .slt (BitVec.ofNat 32 j.val) 512#32 = 1#1 → j.val < 512 := by decide +kernel
  refine key (i 2) ?_
  exact h

/-- v01's mixers and the reference of their retention leave the same array at the retention's columns. -/
theorem algebraic_retention : Cert.algebraic_MixersIdeal_RetentionRefIdeal_on_retention_columns := by
  intro m g m' g' _ hagree
  refine ⟨fun c => (show FVec Ideal Cert.MixersIdeal.S8x2048x1024 .bf16 from (Cert.MixersIdeal.Gen.dats m 0 c).arrAt 10 (Cert.MixersIdeal.cfgs 0).N), ?_, ?_⟩
  · refine (θ_run _ _ _).mono (fun r h c => ?_) (θ_run_and (Cert.MixersIdeal.Gen.unchanged m g) (Cert.MixersIdeal.Gen.run_main m g))
    exact ⟨fun i _ => congrFun ((h.2 c).1 10) i, h.1 c⟩
  · refine (θ_run _ _ _).mono (fun r h c => ?_) (Cert.RetentionRefIdeal.Value.run m' g')
    refine ⟨fun i hi => ?_, (h c).2⟩
    have hl := retention_mask _ _ _ _ _ _ _ _ _ _ _ _ i hi
    refine (congrFun (h c).1 i).trans ?_
    have hy : i = ix3 (⟨(i 0).val, (i 0).isLt⟩ : Fin 8) (⟨(i 1).val, (i 1).isLt⟩ : Fin 2048)
        (⟨(⟨(i 2).val / 128, by omega⟩ : Fin 4).val * 128 + (⟨(i 2).val % 128, by omega⟩ : Fin 128).val, by omega⟩ : Fin 1024) := by
      funext a
      match a with
      | ⟨0, _⟩ => rfl
      | ⟨1, _⟩ => rfl
      | ⟨2, _⟩ => exact Fin.ext (by show (i 2).val = (i 2).val / 128 * 128 + (i 2).val % 128; omega)
    rw [hy]
    refine (Cert.RetentionRefIdeal.Own.out_at m' c _ _ _ _).trans (Eq.trans ?_ (Cert.MixersIdeal.Own.final m c _ _ _ _).symm)
    have e0 : Cert.RetentionRefIdeal.Own.XA m' c = Cert.MixersIdeal.Own.AP m c := (hagree c).1
    have e1 : m' ((c.tc : Thread Cert.RetentionRefIdeal.nD Cert.RetentionRefIdeal.τ).loc Cert.RetentionRefIdeal.main_arg1) = Cert.MixersIdeal.Own.AG m c := (hagree c).2.1
    rw [e0, e1]
/-- Everything the certificate claims. -/
theorem claim : Cert.Claim := ⟨Cert.Proj.Gen.facts, Cert.ProjIdeal.Gen.facts, Cert.ProjRefIdeal.Gen.facts, Cert.Kernel.Gen.facts, Cert.KernelIdeal.Gen.facts,
  Cert.InProj.Gen.facts, Cert.InProjIdeal.Gen.facts, Cert.InProjRefIdeal.Gen.facts, Cert.OutProj.Gen.facts, Cert.OutProjIdeal.Gen.facts,
  Cert.OutProjRefIdeal.Gen.facts, Cert.Mixers.Gen.facts, Cert.MixersIdeal.Gen.facts,
  Cert.RetentionRefIdeal.Gen.facts, Cert.On_retention_columns.Gen.facts,
  fun m ρ _ => Cert.Proj.Own.frame m ρ, fun m ρ _ => Cert.ProjIdeal.Own.frame m ρ, frame_projRef,
  fun m ρ _ => Cert.Kernel.Gen.frame m ρ, fun m ρ _ => Cert.KernelIdeal.Gen.frame m ρ,
  fun m ρ _ => Cert.InProj.Gen.frame m ρ, fun m ρ _ => Cert.InProjIdeal.Gen.frame m ρ, frame_inProjRef,
  fun m ρ _ => Cert.OutProj.Gen.frame m ρ, fun m ρ _ => Cert.OutProjIdeal.Gen.frame m ρ, frame_outProjRef,
  fun m ρ _ => Cert.Mixers.Gen.frame m ρ, fun m ρ _ => Cert.MixersIdeal.Gen.frame m ρ, frame_retentionRef,
  trivial, algebraic_proj, trivial, trivial, algebraic_inProj, trivial, algebraic_outProj, preserves_mixers, algebraic_retention⟩

end Cert.Proof

end
